-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x19x512x512 : Shape := ⟨4, ![8, 19, 512, 512]⟩
abbrev S8x1x512x512 : Shape := ⟨4, ![8, 1, 512, 512]⟩
abbrev S_ : Shape := ⟨0, ![]⟩

class Facts : Prop where
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  h_S_ : 0 < S_.numel
  bcast_S_S8x19x512x512 : S_.BroadcastsInDim S8x19x512x512 (![] : Fin 0 → Fin S8x19x512x512.rank)
  reducesTo_S8x19x512x512_S_d0_1_2_3 : S8x19x512x512.ReducesTo [0, 1, 2, 3] S_

variable [Facts]

def fn {F : FTy → Type} [FloatOps F] (main_arg0 : FVec F S8x19x512x512 .f32) (main_arg1 : IVec S8x1x512x512 32) : IVec S_ 1 :=
  let main_c : IVec S_ 32 := constantI S_ 32 0#32
  let main_v0 : IVec S8x1x512x512 32 := broadcastInDim S8x1x512x512 ![] bcast_S_S8x1x512x512 main_c
  let main_v1 : IVec S8x1x512x512 1 := cmpi .sge main_arg1 main_v0
  let main_c_0 : IVec S_ 32 := constantI S_ 32 19#32
  let main_v2 : IVec S8x1x512x512 32 := broadcastInDim S8x1x512x512 ![] bcast_S_S8x1x512x512 main_c_0
  let main_v3 : IVec S8x1x512x512 1 := cmpi .slt main_arg1 main_v2
  let main_v4 : IVec S8x1x512x512 1 := andi main_v1 main_v3
  let main_c_1 : IVec S_ 1 := constantI S_ 1 1#1
  let main_v5 : IVec S_ 1 := (fun x v => Host.reduce IntOp.andi x v reducesTo_S8x1x512x512_S_d0_1_2_3 h_S_) main_v4 main_c_1
  let main_cst : FVec F S_ .f32 := constant S_ .f32 0xFF800000#32
  let main_v6 : FVec F S8x19x512x512 .f32 := broadcastInDim S8x19x512x512 ![] bcast_S_S8x19x512x512 main_cst
  let main_v7 : IVec S8x19x512x512 1 := cmpf .ogt main_arg0 main_v6
  let main_c_2 : IVec S_ 1 := constantI S_ 1 1#1
  let main_v8 : IVec S_ 1 := (fun x v => Host.reduce IntOp.andi x v reducesTo_S8x19x512x512_S_d0_1_2_3 h_S_) main_v7 main_c_2
  let main_v9 : IVec S_ 1 := andi main_v5 main_v8
  let main_cst_3 : FVec F S_ .f32 := constant S_ .f32 0x7F800000#32
  let main_v10 : FVec F S8x19x512x512 .f32 := broadcastInDim S8x19x512x512 ![] bcast_S_S8x19x512x512 main_cst_3
  let main_v11 : IVec S8x19x512x512 1 := cmpf .olt main_arg0 main_v10
  let main_c_4 : IVec S_ 1 := constantI S_ 1 1#1
  let main_v12 : IVec S_ 1 := (fun x v => Host.reduce IntOp.andi x v reducesTo_S8x19x512x512_S_d0_1_2_3 h_S_) main_v11 main_c_4
  let main_v13 : IVec S_ 1 := andi main_v9 main_v12
  main_v13
-- ==== Kernel.lean ====
abbrev S8x19x512x512 : Shape := ⟨4, ![8, 19, 512, 512]⟩
abbrev S8x1x512x512 : Shape := ⟨4, ![8, 1, 512, 512]⟩
abbrev S8x128 : Shape := ⟨2, ![8, 128]⟩
abbrev S1x19x256x512 : Shape := ⟨4, ![1, 19, 256, 512]⟩
abbrev S1x1x256x512 : Shape := ⟨4, ![1, 1, 256, 512]⟩
abbrev S8x512 : Shape := ⟨2, ![8, 512]⟩
abbrev S1x512 : Shape := ⟨2, ![1, 512]⟩
abbrev S1x1x16x512 : Shape := ⟨4, ![1, 1, 16, 512]⟩
abbrev S16x512 : Shape := ⟨2, ![16, 512]⟩
abbrev S512 : Shape := ⟨1, ![512]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1 : Shape := ⟨1, ![1]⟩
abbrev S1x1 : Shape := ⟨2, ![1, 1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S8x19x512x512, .f32⟩
  | .hbm, ⟨1, _⟩ => ⟨S8x1x512x512, .i32⟩
  | .hbm, ⟨2, _⟩ => ⟨S8x128, .f32⟩
  | .hbm, ⟨3, _⟩ => ⟨S1x1, .f32⟩
  | .hbm, ⟨4, _⟩ => ⟨S_, .f32⟩
  | .local _ .vmem, ⟨0, _⟩ => ⟨S1x19x256x512, .f32⟩
  | .local _ .vmem, ⟨1, _⟩ => ⟨S1x19x256x512, .f32⟩
  | .local _ .vmem, ⟨2, _⟩ => ⟨S1x1x256x512, .i32⟩
  | .local _ .vmem, ⟨3, _⟩ => ⟨S1x1x256x512, .i32⟩
  | .local _ .vmem, ⟨4, _⟩ => ⟨S8x128, .f32⟩
  | .local _ .vmem, ⟨5, _⟩ => ⟨S8x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32_1852 : BitVec 32 := 0#32
  let v2817 : BitVec 1 := Scalar.cmpi .eq arg1 c0_i32_1852
  let v2818 : BitVec 32 := Scalar.extui v2817
  let c0_i32_1853 : BitVec 32 := 0#32
  let v2819 : BitVec 1 := Scalar.cmpi .ne v2818 c0_i32_1853
  v2819

def k0_off1 (i : grid0.Coords) : Fin 2 → Nat :=
  let arg0 : BitVec 32 := BitVec.ofNat 32 (i 0).val
  let v2828 : Index := Scalar.indexCast arg0
  let c0_1859 : Index := 0#32
  ![v2828.toNat, 0]
def k0_cond2 (i : grid0.Coords) : BitVec 1 :=
  let arg1 : BitVec 32 := BitVec.ofNat 32 (i 1).val
  let c0_i32_1854 : BitVec 32 := 0#32
  let v2820 : BitVec 1 := Scalar.cmpi .ne arg1 c0_i32_1854
  let v2821 : BitVec 32 := Scalar.extui v2820
  let c0_i32_1855 : BitVec 32 := 0#32
  let v2822 : BitVec 1 := Scalar.cmpi .ne v2821 c0_i32_1855
  v2822

def k0_off2 (i : grid0.Coords) : Fin 2 → Nat :=
  let arg0 : BitVec 32 := BitVec.ofNat 32 (i 0).val
  let v2828 : Index := Scalar.indexCast arg0
  let c0_1859 : Index := 0#32
  ![v2828.toNat, 0]
def k0_cond3 (i : grid0.Coords) : BitVec 1 :=
  let arg0 : BitVec 32 := BitVec.ofNat 32 (i 0).val
  let c7_i32_1856 : BitVec 32 := 7#32
  let v2823 : BitVec 1 := Scalar.cmpi .eq arg0 c7_i32_1856
  let arg1 : BitVec 32 := BitVec.ofNat 32 (i 1).val
  let c1_i32_1857 : BitVec 32 := 1#32
  let v2824 : BitVec 1 := Scalar.cmpi .eq arg1 c1_i32_1857
  let v2825 : BitVec 1 := Scalar.andi v2823 v2824
  let v2826 : BitVec 32 := Scalar.extui v2825
  let c0_i32_1858 : BitVec 32 := 0#32
  let v2827 : BitVec 1 := Scalar.cmpi .ne v2826 c0_i32_1858
  v2827

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S8x19x512x512 : Shape := ⟨4, ![8, 19, 512, 512]⟩
abbrev S8x1x512x512 : Shape := ⟨4, ![8, 1, 512, 512]⟩
abbrev S_ : Shape := ⟨0, ![]⟩
abbrev S8x512x512 : Shape := ⟨3, ![8, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8 : Shape := ⟨1, ![8]⟩
abbrev S5 : Shape := ⟨1, ![5]⟩
abbrev S5x1 : Shape := ⟨2, ![5, 1]⟩

abbrev nBuf : Space → Nat
  | .hbm => 63
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x1x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x19x512x512, .f32⟩
  | .hbm, ⟨9, _⟩ => ⟨S8x19x512x512, .f32⟩
  | .hbm, ⟨10, _⟩ => ⟨S8x19x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x1x512x512, .f32⟩
  | .hbm, ⟨15, _⟩ => ⟨S8x19x512x512, .f32⟩
  | .hbm, ⟨16, _⟩ => ⟨S8x19x512x512, .f32⟩
  | .hbm, ⟨17, _⟩ => ⟨S8x512x512, .i32⟩
  | .hbm, ⟨18, _⟩ => ⟨S8x1x512x512, .i32⟩
  | .hbm, ⟨19, _⟩ => ⟨S_, .i32⟩
  | .hbm, ⟨20, _⟩ => ⟨S8x1x512x512, .i32⟩
  | .hbm, ⟨21, _⟩ => ⟨S8x1x512x512, .i1⟩
  | .hbm, ⟨22, _⟩ => ⟨S_, .i32⟩
  | .hbm, ⟨23, _⟩ => ⟨S8x1x512x512, .i32⟩
  | .hbm, ⟨24, _⟩ => ⟨S8x1x512x512, .i32⟩
  | .hbm, ⟨25, _⟩ => ⟨S8x1x512x512, .i32⟩
  | .hbm, ⟨26, _⟩ => ⟨S8x1x512x512x1, .i32⟩
  | .hbm, ⟨27, _⟩ => ⟨S1, .i32⟩
  | .hbm, ⟨28, _⟩ => ⟨S_, .i32⟩
  | .hbm, ⟨29, _⟩ => ⟨S8x1x512x512x1, .i32⟩
  | .hbm, ⟨30, _⟩ => ⟨S8x1x512x512x1, .i1⟩
  | .hbm, ⟨31, _⟩ => ⟨S1x1x1x1x1, .i32⟩
  | .hbm, ⟨32, _⟩ => ⟨S8x1x512x512x1, .i32⟩
  | .hbm, ⟨33, _⟩ => ⟨S8x1x512x512x1, .i1⟩
  | .hbm, ⟨34, _⟩ => ⟨S8x1x512x512x1, .i1⟩
  | .hbm, ⟨35, _⟩ => ⟨S_, .i1⟩
  | .hbm, ⟨36, _⟩ => ⟨S8x1x512x512, .i1⟩
  | .hbm, ⟨37, _⟩ => ⟨S8x1x512x512, .f32⟩
  | .hbm, ⟨38, _⟩ => ⟨S_, .f32⟩
  | .hbm, ⟨39, _⟩ => ⟨S8x1x512x512, .f32⟩
  | .hbm, ⟨40, _⟩ => ⟨S8x1x512x512, .f32⟩
  | .hbm, ⟨41, _⟩ => ⟨S8x512x512, .f32⟩
  | .hbm, ⟨42, _⟩ => ⟨S8x512x512, .f32⟩
  | .hbm, ⟨43, _⟩ => ⟨S_, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S5, .f32⟩
  | .hbm, ⟨49, _⟩ => ⟨S5, .i32⟩
  | .hbm, ⟨50, _⟩ => ⟨S_, .i32⟩
  | .hbm, ⟨51, _⟩ => ⟨S5, .i32⟩
  | .hbm, ⟨52, _⟩ => ⟨S5, .i1⟩
  | .hbm, ⟨53, _⟩ => ⟨S_, .i32⟩
  | .hbm, ⟨54, _⟩ => ⟨S5, .i32⟩
  | .hbm, ⟨55, _⟩ => ⟨S5, .i32⟩
  | .hbm, ⟨56, _⟩ => ⟨S5, .i32⟩
  | .hbm, ⟨57, _⟩ => ⟨S5x1, .i32⟩
  | .hbm, ⟨58, _⟩ => ⟨S5, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_cst : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩
abbrev main_v8 : Ref sig .tc := ⟨.hbm, 47, rfl⟩
abbrev main_values : Ref sig .tc := ⟨.hbm, 48, rfl⟩
abbrev main_indices : Ref sig .tc := ⟨.hbm, 49, rfl⟩
abbrev main_c : Ref sig .tc := ⟨.hbm, 50, rfl⟩
abbrev main_v9 : Ref sig .tc := ⟨.hbm, 51, rfl⟩
abbrev main_v10 : Ref sig .tc := ⟨.hbm, 52, rfl⟩
abbrev main_c_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_cst_2 : Ref sig .tc := ⟨.hbm, 59, rfl⟩
abbrev main_v16 : Ref sig .tc := ⟨.hbm, 60, rfl⟩
abbrev main_cst_3 : Ref sig .tc := ⟨.hbm, 61, rfl⟩
abbrev main_v17 : Ref sig .tc := ⟨.hbm, 62, rfl⟩

abbrev nD : Nat := 1
abbrev τ : Topo := Topo.v7x

variable {F : FTy → Type} [FloatOps F]
-- ==== Proof.KernelIdeal.Base.lean ====
/- What the three runs of the kernel's body share: the branch conditions in closed form over the grid, where the
   output window is idle, the staging and scratch memrefs, and the region's invariant read at the scratch. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen.Ohem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first half of a sample: `h = 0`. -/
theorem cond1_iff : ∀ t : Fin cfg0.N, k0_cond1 (grid0.coords t) = 1#1 ↔ t.val % 2 = 0 :=
  (fun t => by
    have ht : t.val < 16 := Nat.lt_of_lt_of_eq t.isLt N_0
    have e1 : (grid0.coords t 1).val = t.val / 1 % 2 := Pipeline.Grid.coords_val t 1 (by decide) rfl
    simp only [k0_cond1, e1]
    word_cmp
   : ∀ t : Fin grid0.N, k0_cond1 (grid0.coords t) = 1#1 ↔ t.val % 2 = 0)

/-- The second half: `h ≠ 0`. -/
theorem cond2_iff : ∀ t : Fin cfg0.N, k0_cond2 (grid0.coords t) = 1#1 ↔ t.val % 2 = 1 :=
  (fun t => by
    have ht : t.val < 16 := Nat.lt_of_lt_of_eq t.isLt N_0
    have e1 : (grid0.coords t 1).val = t.val / 1 % 2 := Pipeline.Grid.coords_val t 1 (by decide) rfl
    simp only [k0_cond2, e1]
    word_cmp
   : ∀ t : Fin grid0.N, k0_cond2 (grid0.coords t) = 1#1 ↔ t.val % 2 = 1)

/-- The last point of the grid. -/
theorem cond3_iff : ∀ t : Fin cfg0.N, k0_cond3 (grid0.coords t) = 1#1 ↔ t.val % 16 = 15 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [k0_cond3, e0, e1]
    word_cmp
   : ∀ t : Fin grid0.N, k0_cond3 (grid0.coords t) = 1#1 ↔ t.val % 16 = 15)

/-- The row of the accumulator a point works on is its sample's. -/
theorem off1_eq : ∀ t : Fin cfg0.N, k0_off1 (grid0.coords t) = ![t.val / 2, 0] := by decide +kernel
theorem off2_eq : ∀ t : Fin cfg0.N, k0_off2 (grid0.coords t) = ![t.val / 2, 0] := by decide +kernel

/-! ## The output window away from the last point -/

theorem live0 : ∀ t : Fin cfg0.N, cfg0.idle 0 (grid0.coords t) = false := fun _ => rfl
theorem live1 : ∀ t : Fin cfg0.N, cfg0.idle 1 (grid0.coords t) = false := fun _ => rfl
/-- Away from the last point nothing is stored into the output's buffer, -/
theorem idle2 : ∀ t : Fin cfg0.N, ¬t.val % 16 = 15 → cfg0.idle 2 (grid0.coords t) = true := by decide +kernel
/-- and it is not written back; -/
theorem noFlush2 : ∀ t : Fin cfg0.N, ¬t.val % 16 = 15 → (cfg0.win 2).flush t = false := by decide +kernel
/-- at the last point it is stored. -/
theorem live2 : ∀ t : Fin cfg0.N, t.val % 16 = 15 → cfg0.idle 2 (grid0.coords t) = false := by decide +kernel

/-! ## The memrefs -/

abbrev ms0 (t : Fin cfg0.N) : Memref sig .tc .vmem S1x19x256x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x256x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
/-- The accumulator. -/
abbrev scM : Memref sig .tc .vmem S8x512 .f32 := Memref.whole cc0_scratch0

/-- The region's invariant at its ends: the accumulator at anything, the generator's register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Gen.Ohem

end
-- ==== Proof.KernelIdeal.RunA.lean ====
/- The run of the kernel's body on the first half of a sample. -/
module

public import proofs.«01_k».proof.Proof.KernelIdeal.Base

@[expose] public section

set_option maxRecDepth 16384

noncomputable section

namespace Cert.KernelIdeal.Gen.Ohem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where `h = 0`: the pieces it leaves in the accumulator, with the proof that from the two input blocks, an
    output buffer `x2` it hands back and an accumulator at `xs` it runs to the end with those pieces written over `xs`. -/
noncomputable def runA (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc1 : k0_cond1 i = 1#1) (hc2 : ¬k0_cond2 i = 1#1) (hc3 : ¬k0_cond3 i = 1#1)
    (x0 : Vec F S1x19x256x512 .f32) (x1 : Vec F S1x1x256x512 .i32) (xs : Vec F S8x512 .f32) :
    { LS : List (View.Piece (Elt F) S8x512 .f32) //
      ∀ (x2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xs
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xs) LS)) -∗ K ⟨⟩))
          ⊢ wp frame (wpE (defs₀ (F := F)) Variants.none c none) E (cc0__ohem_kernel i arg2 harg2 arg3 harg3 arg4 harg4 arg5 harg5) K } := by
  refine ⟨?_, fun x2 E K => ?run⟩
  case run =>
    simp only [cc0__ohem_kernel_eq_skeleton]; unfold cc0__ohem_kernel_skel
    simp only [k0_part80_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hfs
    obtain rfl := harg4.eq_unread hf2
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

end Cert.KernelIdeal.Gen.Ohem

end
-- ==== Proof.KernelIdeal.RunB.lean ====
/- The run of the kernel's body on the second half of a sample that is not the last. -/
module

public import proofs.«01_k».proof.Proof.KernelIdeal.RunA

@[expose] public section

set_option maxRecDepth 16384

noncomputable section

namespace Cert.KernelIdeal.Gen.Ohem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body where `h ≠ 0` before the last point: as `runA`, its piece being the row read plus the half's sums. -/
noncomputable def runB (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc1 : ¬k0_cond1 i = 1#1) (hc2 : k0_cond2 i = 1#1) (hc3 : ¬k0_cond3 i = 1#1)
    (x0 : Vec F S1x19x256x512 .f32) (x1 : Vec F S1x1x256x512 .i32) (xs : Vec F S8x512 .f32) :
    { LS : List (View.Piece (Elt F) S8x512 .f32) //
      ∀ (x2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xs
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xs) LS)) -∗ K ⟨⟩))
          ⊢ wp frame (wpE (defs₀ (F := F)) Variants.none c none) E (cc0__ohem_kernel i arg2 harg2 arg3 harg3 arg4 harg4 arg5 harg5) K } := by
  refine ⟨?_, fun x2 E K => ?run⟩
  case run =>
    simp only [cc0__ohem_kernel_eq_skeleton]; unfold cc0__ohem_kernel_skel
    simp only [k0_part80_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg5.eq_unread hfs
    obtain rfl := harg4.eq_unread hf2
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

end Cert.KernelIdeal.Gen.Ohem

end
-- ==== Proof.KernelIdeal.RunC.lean ====
/- The run of the kernel's body at the last point. -/
module

public import proofs.«01_k».proof.Proof.KernelIdeal.RunB

@[expose] public section

set_option maxRecDepth 16384

noncomputable section

namespace Cert.KernelIdeal.Gen.Ohem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last point: as `runB`, and then the output buffer, whatever it held, ends with the pieces `L2` written. -/
noncomputable def runC (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc1 : ¬k0_cond1 i = 1#1) (hc2 : k0_cond2 i = 1#1) (hc3 : k0_cond3 i = 1#1)
    (x0 : Vec F S1x19x256x512 .f32) (x1 : Vec F S1x1x256x512 .i32) (xs : Vec F S8x512 .f32) :
    Σ' (L2 : List (View.Piece (Elt F) S8x128 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (arg5.view.loc (c : Thread nD τ) ↦[arg5.view.set]{fullShare} arg5.view.writes (Elt F) (harg5.unread xs) LS)) -∗ K ⟨⟩))
          ⊢ wp frame (wpE (defs₀ (F := F)) Variants.none c none) E (cc0__ohem_kernel i arg2 harg2 arg3 harg3 arg4 harg4 arg5 harg5) K } := by
  refine ⟨?_, ?_, fun E K => ?run⟩
  case run =>
    simp only [cc0__ohem_kernel_eq_skeleton]; unfold cc0__ohem_kernel_skel
    simp only [k0_part80_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexact HS

end Cert.KernelIdeal.Gen.Ohem

end
-- ==== Proof.KernelIdeal.Rows.lean ====
/- What one half of a sample contributes, as vectors: sixteen strips of sixteen pixel rows, each the column sums of
   `log (∑ exp x) - (the labelled x)`, added up from zero. The definitions follow the order in which the kernel adds. -/
module

public import proofs.«01_k».proof.Proof.KernelIdeal.Base
public import Idealize.ShloMosaic.Lib.VecWindow
public import Idealize.ShloMosaic.Lib.Pipeline.Value

@[expose] public section

set_option maxRecDepth 16384

noncomputable section

namespace Cert.KernelIdeal.Gen.Ohem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running sum over the classes of the exponentials, up to class `n`. -/
def expSum (p : Fin 19 → Vec F S1x1x16x512 .f32) : (n : ℕ) → n < 19 → FVec F S16x512 .f32
  | 0, h => exp (shapeCast S16x512 (p ⟨0, h⟩) shapeCasts_S1x1x16x512_S16x512)
  | n + 1, h => addf (expSum p n (Nat.lt_of_succ_lt h)) (exp (shapeCast S16x512 (p ⟨n + 1, h⟩) shapeCasts_S1x1x16x512_S16x512))

/-- Class `n`'s values where the label is `n`, zero elsewhere. -/
def picked (lab : IVec S16x512 32) (p : Fin 19 → Vec F S1x1x16x512 .f32) (n : ℕ) (h : n < 19) : FVec F S16x512 .f32 :=
  select (cmpi .eq lab (broadcast S16x512 (BitVec.ofNat 32 n))) (shapeCast S16x512 (p ⟨n, h⟩) shapeCasts_S1x1x16x512_S16x512)
    (broadcast S16x512 (Scalar.ofBits .f32 0x00000000#32))

/-- The running sum over the classes of the picked values, up to class `n`. -/
def pickSum (lab : IVec S16x512 32) (p : Fin 19 → Vec F S1x1x16x512 .f32) : (n : ℕ) → n < 19 → FVec F S16x512 .f32
  | 0, h => picked lab p 0 h
  | n + 1, h => addf (pickSum lab p n (Nat.lt_of_succ_lt h)) (picked lab p (n + 1) h)

/-- One strip's losses, pixel by pixel. -/
def stripLoss (l : Vec F S1x1x16x512 .i32) (p : Fin 19 → Vec F S1x1x16x512 .f32) : FVec F S16x512 .f32 :=
  subf (log (expSum p 18 (by decide))) (pickSum (shapeCast S16x512 l shapeCasts_S1x1x16x512_S16x512) p 18 (by decide))

/-- One strip's column sums. -/
def stripRow (l : Vec F S1x1x16x512 .i32) (p : Fin 19 → Vec F S1x1x16x512 .f32) : FVec F S1x512 .f32 :=
  shapeCast S1x512 (multiReduction .add [0] S512 (stripLoss l p) 0x00000000#32 reduces_S16x512_S512 (.inl rfl) rfl) shapeCasts_S512_S1x512

/-- The strips before strip `n`, added up from zero. -/
def rowSum (l : Fin 16 → Vec F S1x1x16x512 .i32) (p : Fin 16 → Fin 19 → Vec F S1x1x16x512 .f32) : (n : ℕ) → n ≤ 16 → FVec F S1x512 .f32
  | 0, _ => broadcast S1x512 (Scalar.ofBits .f32 0x00000000#32)
  | n + 1, h => addf (rowSum l p n (Nat.le_of_succ_le h)) (stripRow (l ⟨n, h⟩) (p ⟨n, h⟩))

/-- The strips lie inside the blocks. -/
theorem inb0 : ∀ (i : Fin 16) (k : Fin 19), ∀ a, (![0, k.val, 16 * i.val, 0] : Fin 4 → Nat) a + S1x1x16x512.size a ≤ S1x19x256x512.size a := by
  decide
theorem inb1 : ∀ i : Fin 16, ∀ a, (![0, 0, 16 * i.val, 0] : Fin 4 → Nat) a + S1x1x16x512.size a ≤ S1x1x256x512.size a := by
  decide

/-- Strip `i` of class `k` of a block of scores. -/
def st0 (x0 : Vec F S1x19x256x512 .f32) (i : Fin 16) (k : Fin 19) : Vec F S1x1x16x512 .f32 :=
  VecWindow.window x0 ![0, k.val, 16 * i.val, 0] S1x1x16x512.size (inb0 i k)

/-- Strip `i` of a block of labels. -/
def st1 (x1 : Vec F S1x1x256x512 .i32) (i : Fin 16) : Vec F S1x1x16x512 .i32 :=
  VecWindow.window x1 ![0, 0, 16 * i.val, 0] S1x1x16x512.size (inb1 i)

/-- The sums of a half from its two blocks. -/
def half (x0 : Vec F S1x19x256x512 .f32) (x1 : Vec F S1x1x256x512 .i32) : FVec F S1x512 .f32 :=
  rowSum (st1 x1) (st0 x0) 16 (le_refl _)

/-- Row `b` of the accumulator lies inside it. -/
theorem inbRow (b : ℕ) (hb : b < 8) : ∀ a, (![b, 0] : Fin 2 → ℕ) a + S1x512.size a ≤ S8x512.size a :=
  Fin.forall_fin_two.mpr ⟨Nat.succ_le_of_lt hb, le_refl 512⟩

/-- What a point at row `b` makes of the accumulator: the first half stores its sums, the second adds them. -/
def stepA (b : ℕ) (x0 : Vec F S1x19x256x512 .f32) (x1 : Vec F S1x1x256x512 .i32) (xs : Vec F S8x512 .f32) : Vec F S8x512 .f32 :=
  VecWindow.put xs ![b, 0] S1x512.size (half x0 x1)
def stepB (b : ℕ) (hb : b < 8) (x0 : Vec F S1x19x256x512 .f32) (x1 : Vec F S1x1x256x512 .i32) (xs : Vec F S8x512 .f32) : Vec F S8x512 .f32 :=
  VecWindow.put xs ![b, 0] S1x512.size (addf (VecWindow.window xs ![b, 0] S1x512.size (inbRow b hb)) (half x0 x1))

end Cert.KernelIdeal.Gen.Ohem

end
-- ==== Proof.KernelIdeal.Pieces.lean ====
/- The pieces the three runs leave, read back: each point's step on the accumulator, and the output at the last. -/
module

public import proofs.«01_k».proof.Proof.KernelIdeal.RunC
public import proofs.«01_k».proof.Proof.KernelIdeal.Rows

@[expose] public section

set_option maxRecDepth 16384

noncomputable section

namespace Cert.KernelIdeal.Gen.Ohem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Strip `i` of class `k`, as the body loads it. -/
def ld0 (arg2 : Memref sig .tc .vmem S1x19x256x512 .f32) (harg2 : arg2.IsWhole) (x0 : Vec F S1x19x256x512 .f32)
    (i : Fin 16) (k : Fin 19) : Vec F S1x1x16x512 .f32 :=
  View.readAt (Elt F) arg2.view (Rect.unit (s := S1x19x256x512) ![0, k.val, 16 * i.val, 0] S1x1x16x512.size (inb0 i k)).toLoadRect (harg2.unread x0)

/-- Strip `i` of the labels, as the body loads it. -/
def ld1 (arg3 : Memref sig .tc .vmem S1x1x256x512 .i32) (harg3 : arg3.IsWhole) (x1 : Vec F S1x1x256x512 .i32)
    (i : Fin 16) : Vec F S1x1x16x512 .i32 :=
  View.readAt (Elt F) arg3.view (Rect.unit (s := S1x1x256x512) ![0, 0, 16 * i.val, 0] S1x1x16x512.size (inb1 i)).toLoadRect (harg3.unread x1)

theorem ld0_eq (arg2 : Memref sig .tc .vmem S1x19x256x512 .f32) (harg2 : arg2.IsWhole) (x0 : Vec F S1x19x256x512 .f32) :
    ld0 arg2 harg2 x0 = st0 x0 := by
  funext i k
  unfold ld0 st0
  rw [View.readAt_unit _ _ (inb0 i k) rfl (inb0 i k), harg2.read_unread]

theorem ld1_eq (arg3 : Memref sig .tc .vmem S1x1x256x512 .i32) (harg3 : arg3.IsWhole) (x1 : Vec F S1x1x256x512 .i32) :
    ld1 arg3 harg3 x1 = st1 x1 := by
  funext i
  unfold ld1 st1
  rw [View.readAt_unit _ _ (inb1 i) rfl (inb1 i), harg3.read_unread]

set_option maxRecDepth 65536 in
set_option maxHeartbeats 2000000 in
/-- The piece of the first half: the half's sums, as the sample's row. -/
theorem runA_eq (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc1 : k0_cond1 i = 1#1) (hc2 : ¬k0_cond2 i = 1#1) (hc3 : ¬k0_cond3 i = 1#1)
    (x0 : Vec F S1x19x256x512 .f32) (x1 : Vec F S1x1x256x512 .i32) (xs : Vec F S8x512 .f32) :
    (runA c i arg2 harg2 arg3 harg3 arg4 harg4 arg5 harg5 hc1 hc2 hc3 x0 x1 xs).1
      = [⟨Rect.unit (s := S8x512) (k0_off1 i) S1x512.size (k0_off1_inb i hc1),
          shapeCast S1x512 (rowSum (ld1 arg3 harg3 x1) (ld0 arg2 harg2 x0) 16 (le_refl _)) shapeCasts_S1x512_S1x512⟩] := rfl

/-- What the second half stores: the row it reads plus the half's sums. -/
def pieceB (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc2 : k0_cond2 i = 1#1)
    (x0 : Vec F S1x19x256x512 .f32) (x1 : Vec F S1x1x256x512 .i32) (xs : Vec F S8x512 .f32) : View.Piece (Elt F) S8x512 .f32 :=
  ⟨Rect.unit (s := S8x512) (k0_off2 i) S1x512.size (k0_off2_inb i hc2),
    shapeCast S1x512 (addf (View.readAt (Elt F) arg5.view (Rect.unit (s := S8x512) (k0_off2 i) S1x512.size (k0_off2_inb i hc2)).toLoadRect (harg5.unread xs))
      (rowSum (ld1 arg3 harg3 x1) (ld0 arg2 harg2 x0) 16 (le_refl _))) shapeCasts_S1x512_S1x512⟩

set_option maxRecDepth 65536 in
set_option maxHeartbeats 2000000 in
theorem runB_eq (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc1 : ¬k0_cond1 i = 1#1) (hc2 : k0_cond2 i = 1#1) (hc3 : ¬k0_cond3 i = 1#1)
    (x0 : Vec F S1x19x256x512 .f32) (x1 : Vec F S1x1x256x512 .i32) (xs : Vec F S8x512 .f32) :
    (runB c i arg2 harg2 arg3 harg3 arg4 harg4 arg5 harg5 hc1 hc2 hc3 x0 x1 xs).1 = [pieceB c i arg2 harg2 arg3 harg3 arg4 harg4 arg5 harg5 hc2 x0 x1 xs] := rfl

set_option maxRecDepth 65536 in
set_option maxHeartbeats 2000000 in
theorem runC_eq (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc1 : ¬k0_cond1 i = 1#1) (hc2 : k0_cond2 i = 1#1) (hc3 : k0_cond3 i = 1#1)
    (x0 : Vec F S1x19x256x512 .f32) (x1 : Vec F S1x1x256x512 .i32) (xs : Vec F S8x512 .f32) :
    (runC c i arg2 harg2 arg3 harg3 arg4 harg4 arg5 harg5 hc1 hc2 hc3 x0 x1 xs).2.1 = [pieceB c i arg2 harg2 arg3 harg3 arg4 harg4 arg5 harg5 hc2 x0 x1 xs] := rfl

set_option maxRecDepth 65536 in
set_option maxHeartbeats 2000000 in
/-- The output of the last point, from the accumulator it has just completed. -/
theorem runC_out (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc1 : ¬k0_cond1 i = 1#1) (hc2 : k0_cond2 i = 1#1) (hc3 : k0_cond3 i = 1#1)
    (x0 : Vec F S1x19x256x512 .f32) (x1 : Vec F S1x1x256x512 .i32) (xs : Vec F S8x512 .f32) :
    (runC c i arg2 harg2 arg3 harg3 arg4 harg4 arg5 harg5 hc1 hc2 hc3 x0 x1 xs).1
      = [⟨Rect.unit (s := S8x128) ![0, 0] S8x128.size inb_S8x128_S8x128_0_0,
          k0_pay1 (View.readAt (Elt F) arg5.view (Rect.unit (s := S8x512) ![0, 0] S8x512.size inb_S8x512_S8x512_0_0).toLoadRect
            (arg5.view.writes (Elt F) (harg5.unread xs) [pieceB c i arg2 harg2 arg3 harg3 arg4 harg4 arg5 harg5 hc2 x0 x1 xs]))⟩] := rfl

/-- The accumulator after the first half, read. -/
theorem readA (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc1 : k0_cond1 i = 1#1) (hc2 : ¬k0_cond2 i = 1#1) (hc3 : ¬k0_cond3 i = 1#1)
    (x0 : Vec F S1x19x256x512 .f32) (x1 : Vec F S1x1x256x512 .i32) (xs : Vec F S8x512 .f32) (b : ℕ) (hoff : k0_off1 i = ![b, 0]) :
    arg5.view.read (Elt F) (arg5.view.writes (Elt F) (harg5.unread xs) (runA c i arg2 harg2 arg3 harg3 arg4 harg4 arg5 harg5 hc1 hc2 hc3 x0 x1 xs).1) = stepA b x0 x1 xs := by
  rw [runA_eq, View.read_writes_cons_put _ _ _ _ _ hoff, View.writes_nil, harg5.read_unread, ld0_eq, ld1_eq]
  exact congrArg (VecWindow.put xs ![b, 0] S1x512.size) (shapeCast_self _ _)

/-- The accumulator after the second half, read. -/
theorem readPieceB (c : Dev nD) (i : grid0.Coords) (arg2 : Memref sig .tc .vmem S1x19x256x512 .f32) (harg2 : arg2.IsWhole)
    (arg3 : Memref sig .tc .vmem S1x1x256x512 .i32) (harg3 : arg3.IsWhole) (arg4 : Memref sig .tc .vmem S8x128 .f32) (harg4 : arg4.IsWhole)
    (arg5 : Memref sig .tc .vmem S8x512 .f32) (harg5 : arg5.IsWhole)
    (hc2 : k0_cond2 i = 1#1)
    (x0 : Vec F S1x19x256x512 .f32) (x1 : Vec F S1x1x256x512 .i32) (xs : Vec F S8x512 .f32) (b : ℕ) (hb : b < 8) (hoff : k0_off2 i = ![b, 0]) :
    arg5.view.read (Elt F) (arg5.view.writes (Elt F) (harg5.unread xs) [pieceB c i arg2 harg2 arg3 harg3 arg4 harg4 arg5 harg5 hc2 x0 x1 xs]) = stepB b hb x0 x1 xs := by
  unfold pieceB
  rw [View.read_writes_cons_put _ _ _ _ _ hoff, View.writes_nil, harg5.read_unread, ld0_eq, ld1_eq,
    View.readAt_unit _ _ _ hoff (inbRow b hb), harg5.read_unread]
  exact congrArg (VecWindow.put xs ![b, 0] S1x512.size) (shapeCast_self _ _)

end Cert.KernelIdeal.Gen.Ohem

end
-- ==== Proof.KernelIdeal.Data.lean ====
/- The pipeline's proof data: what the accumulator holds before every point, from whatever it held at the start, and
   what the output's buffer holds after the last point; the body obligation at every point; the run of the program. -/
module

public import proofs.«01_k».proof.Proof.KernelIdeal.Pieces
public import Idealize.ShloMosaic.Lib.Claim
public import Idealize.ShloMosaic.Lib.Pointwise

@[expose] public section

set_option maxRecDepth 16384

noncomputable section

namespace Cert.KernelIdeal.Gen.Ohem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

theorem half_lt (t : Fin cfg0.N) : t.val / 2 < 8 := by
  have ht : t.val < 16 := Nat.lt_of_lt_of_eq t.isLt N_0
  omega

/-- A half's sums at point `t`, from the blocks staged there. -/
def halfAt (c : Dev nD) (t : Fin cfg0.N) : FVec F S1x512 .f32 :=
  half (iblk m c 0 t : Vec F S1x19x256x512 .f32) (iblk m c 1 t : Vec F S1x1x256x512 .i32)

/-- What point `t` makes of the accumulator. -/
def step (c : Dev nD) (t : Fin cfg0.N) (xs : Vec F S8x512 .f32) : Vec F S8x512 .f32 :=
  if t.val % 2 = 0 then stepA (t.val / 2) (iblk m c 0 t : Vec F S1x19x256x512 .f32) (iblk m c 1 t : Vec F S1x1x256x512 .i32) xs
  else stepB (t.val / 2) (half_lt t) (iblk m c 0 t : Vec F S1x19x256x512 .f32) (iblk m c 1 t : Vec F S1x1x256x512 .i32) xs

/-- The accumulator before point `n`, `d` being what it held at the start. -/
def accAt (c : Dev nD) (d : Vec F S8x512 .f32) : (n : ℕ) → n ≤ cfg0.N → Vec F S8x512 .f32
  | 0, _ => d
  | n + 1, h => step m c ⟨n, h⟩ (accAt c d n (Nat.le_of_succ_le h))

/-- The first and the second half of sample `b`. -/
def pt0 (b : Fin 8) : Fin cfg0.N := ⟨2 * b.val, by rw [show cfg0.N = 16 from N_0]; omega⟩
def pt1 (b : Fin 8) : Fin cfg0.N := ⟨2 * b.val + 1, by rw [show cfg0.N = 16 from N_0]; omega⟩

/-- The completed accumulator: in each row the sums of the sample's two halves. -/
def full (c : Dev nD) : Vec F S8x512 .f32 := fun j =>
  addf (halfAt m c (pt0 (j 0))) (halfAt m c (pt1 (j 0))) (ix2 0 (j 1))

theorem put_row_same (xs : Vec F S8x512 .f32) (w : FVec F S1x512 .f32) (b : Fin 8) (k : Fin 512) (o : ℕ) (ho : o = b.val) :
    VecWindow.put xs ![o, 0] S1x512.size w (ix2 b k) = w (ix2 0 k) := by
  subst ho
  unfold VecWindow.put
  rw [dif_pos (Fin.forall_fin_two.mpr ⟨⟨le_refl _, Nat.lt_succ_self _⟩, ⟨Nat.zero_le _, by
    show k.val < 0 + 512
    have := k.isLt
    omega⟩⟩)]
  refine congrArg w (funext fun a => Fin.ext ?_)
  revert a
  exact Fin.forall_fin_two.mpr ⟨Nat.sub_self _, Nat.sub_zero _⟩

theorem put_row_other (xs : Vec F S8x512 .f32) (w : FVec F S1x512 .f32) (b : Fin 8) (k : Fin 512) (o : ℕ) (ho : o ≠ b.val) :
    VecWindow.put xs ![o, 0] S1x512.size w (ix2 b k) = xs (ix2 b k) := by
  unfold VecWindow.put
  rw [dif_neg]
  intro h
  have h0 := h 0
  have e1 : (![o, 0] : Fin 2 → ℕ) 0 = o := rfl
  have e2 : S1x512.size 0 = 1 := rfl
  have e3 : ((ix2 b k : S8x512.Idx) 0).val = b.val := rfl
  omega

theorem window_row (xs : Vec F S8x512 .f32) (b : Fin 8) (k : Fin 512) (o : ℕ) (ho : o < 8) (hb : o = b.val) :
    VecWindow.window xs ![o, 0] S1x512.size (inbRow o ho) (ix2 0 k) = xs (ix2 b k) := by
  subst hb
  unfold VecWindow.window
  refine congrArg xs (funext fun a => Fin.ext ?_)
  revert a
  refine Fin.forall_fin_two.mpr ⟨?_, ?_⟩
  · show b.val + 1 * 0 = b.val
    omega
  · show 0 + 1 * k.val = k.val
    omega

/-- The row of a sample whose first half is done holds that half's sums, and once both are done the two added. -/
theorem accAt_row (c : Dev nD) (d : Vec F S8x512 .f32) (b : Fin 8) (k : Fin 512) : ∀ (n : ℕ) (h : n ≤ cfg0.N),
    (n = 2 * b.val + 1 → accAt m c d n h (ix2 b k) = halfAt m c (pt0 b) (ix2 0 k))
      ∧ (2 * b.val + 2 ≤ n → accAt m c d n h (ix2 b k) = addf (halfAt m c (pt0 b)) (halfAt m c (pt1 b)) (ix2 0 k))
  | 0, h => ⟨fun e => absurd e (by omega), fun e => absurd e (by omega)⟩
  | n + 1, h => by
    obtain ⟨ih1, ih2⟩ := accAt_row c d b k n (Nat.le_of_succ_le h)
    refine ⟨fun e => ?_, fun e => ?_⟩
    · have en : n = 2 * b.val := by omega
      subst en
      show step m c (pt0 b) _ _ = _
      unfold step
      rw [if_pos (show (pt0 b).val % 2 = 0 by show 2 * b.val % 2 = 0; omega)]
      exact put_row_same _ _ b k _ (show 2 * b.val / 2 = b.val by omega)
    · by_cases hn : n = 2 * b.val + 1
      · subst hn
        show step m c (pt1 b) _ _ = _
        unfold step
        rw [if_neg (show ¬ (pt1 b).val % 2 = 0 by show ¬ (2 * b.val + 1) % 2 = 0; omega)]
        refine (put_row_same _ _ b k _ (show (2 * b.val + 1) / 2 = b.val by omega)).trans ?_
        show FloatOps.addf _ _ = FloatOps.addf _ _
        refine congrArg (fun z => FloatOps.addf z (halfAt m c (pt1 b) (ix2 0 k))) ?_
        exact (window_row _ b k _ (show (2 * b.val + 1) / 2 < 8 by omega) (show (2 * b.val + 1) / 2 = b.val by omega)).trans (ih1 rfl)
      · have hn' : 2 * b.val + 2 ≤ n := by omega
        rw [← ih2 hn']
        show step m c ⟨n, h⟩ _ _ = _
        unfold step
        have hne : n / 2 ≠ b.val := by omega
        by_cases hp : n % 2 = 0
        · rw [if_pos hp]; exact put_row_other _ _ b k _ hne
        · rw [if_neg hp]; exact put_row_other _ _ b k _ hne

/-- After the last point nothing is left of what the accumulator held at the start. -/
theorem accAt_last (c : Dev nD) (d : Vec F S8x512 .f32) (n : ℕ) (h : n ≤ cfg0.N) (hn : n = 16) : accAt m c d n h = full m c := by
  funext j
  have hj : j = ix2 (j 0) (j 1) := eq_ix2 j
  rw [hj]
  have hlt : (j 0).val < 8 := (j 0).isLt
  exact (accAt_row m c d (j 0) (j 1) n h).2 (by omega)

/-! ## The proof data -/

/-- The region's invariant before point `n`: the accumulator as the points before left it, from some start, and the
    generator's register at some state. -/
def Inv (c : Dev nD) (n : ℕ) (h : n ≤ cfg0.N) : sProp 𝕄 :=
  iprop(iprop((∃ d, owns (c : Thread nD τ) scM fullShare (accAt m c d n h))) ∗ (∃ r, prngReg c r))

/-- Each input's buffer at its block; the output's at the completed result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (full m c)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay1 (full m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 2000000 in
/-- The body at any point, by its three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = Inv m c (t.val + 1) t.isLt from rfl, Inv_castSucc]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  unfold Inv
  by_cases h0 : t.val % 2 = 0
  · have hc1 := (cond1_iff t).mpr h0
    have hc2 : ¬k0_cond2 (grid0.coords t) = 1#1 := fun h => by have := (cond2_iff t).mp h; omega
    have hc3 : ¬k0_cond3 (grid0.coords t) = 1#1 := fun h => by have := (cond3_iff t).mp h; omega
    rw [Dat.leavesExact_idle (dats m 0 c) 2 t (idle2 t (by omega)) (noFlush2 t (by omega))]
    iintro ⟨⟨⟨%ds, HS⟩, Hg⟩, Ho, ⟨%d0, H0⟩, ⟨%d1, H1⟩, ⟨%d2, H2⟩⟩
    iapply ((runA c (grid0.coords t) _ _ _ _ _ _ _ _ hc1 hc2 hc3 (iblk m c 0 t) (iblk m c 1 t) (accAt m c ds t.val (Nat.le_of_lt t.isLt))).2 _ Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists ds
        unfold owns; iexists _; isplitr
        swap; · iexact HS
        ipureintro
        refine (readA c (grid0.coords t) _ _ _ _ _ _ _ _ hc1 hc2 hc3 (iblk m c 0 t) (iblk m c 1 t) _ (t.val / 2) (off1_eq t)).trans ?_
        show _ = step m c t _
        unfold step
        rw [if_pos h0]
      iexact Hg
    isplitl [Ho]; · iexact Ho
    isplitl [H0]; · iexact H0
    isplitl [H1]; · iexact H1
    iexists _; iexact H2
  · have hc1 : ¬k0_cond1 (grid0.coords t) = 1#1 := fun h => h0 ((cond1_iff t).mp h)
    have hc2 := (cond2_iff t).mpr (by omega)
    by_cases h3 : t.val % 16 = 15
    · have hc3 := (cond3_iff t).mpr h3
      rw [show (dats m 0 c).leavesExact 2 t = owns (c : Thread nD τ) (ms2 t) fullShare ((dats m 0 c).after 2 t) from by
        unfold Dat.leavesExact; rw [live2 t h3], after2]
      iintro ⟨⟨⟨%ds, HS⟩, Hg⟩, Ho, ⟨%d0, H0⟩, ⟨%d1, H1⟩, ⟨%d2, H2⟩⟩
      have hst : stepB (t.val / 2) (half_lt t) (iblk m c 0 t : Vec F S1x19x256x512 .f32) (iblk m c 1 t : Vec F S1x1x256x512 .i32) (accAt m c ds t.val (Nat.le_of_lt t.isLt))
          = accAt m c ds (t.val + 1) t.isLt := by
        show _ = step m c t _
        unfold step
        rw [if_neg h0]
      iapply ((runC c (grid0.coords t) _ _ _ _ _ _ _ _ hc1 hc2 hc3 (iblk m c 0 t) (iblk m c 1 t) (accAt m c ds t.val (Nat.le_of_lt t.isLt))).2.2 Set.univ _)
      isplitl [H0]; · iexact H0
      isplitl [H1]; · iexact H1
      isplitl [H2]; · iexists _; iexact H2
      isplitl [HS]; · iexact HS
      iintro ⟨H0, H1, ⟨%e2, H2⟩, HS⟩
      isplitl [HS Hg]
      · isplitl [HS]
        · iexists ds
          unfold owns; iexists _; isplitr
          swap; · iexact HS
          ipureintro
          rw [runC_eq, readPieceB _ _ _ _ _ _ _ _ _ _ _ _ _ _ (t.val / 2) (half_lt t) (off2_eq t)]
          exact hst
        iexact Hg
      isplitl [Ho]; · iexact Ho
      isplitl [H0]; · iexact H0
      isplitl [H1]; · iexact H1
      unfold owns; iexists _; isplitr
      swap; · iexact H2
      ipureintro
      rw [runC_out, View.read_writes_full, View.readAt_full, readPieceB _ _ _ _ _ _ _ _ _ _ _ _ _ _ (t.val / 2) (half_lt t) (off2_eq t), hst,
        accAt_last m c ds (t.val + 1) t.isLt (by omega)]
    · have hc3 : ¬k0_cond3 (grid0.coords t) = 1#1 := fun h => h3 ((cond3_iff t).mp h)
      rw [Dat.leavesExact_idle (dats m 0 c) 2 t (idle2 t h3) (noFlush2 t h3)]
      iintro ⟨⟨⟨%ds, HS⟩, Hg⟩, Ho, ⟨%d0, H0⟩, ⟨%d1, H1⟩, ⟨%d2, H2⟩⟩
      iapply ((runB c (grid0.coords t) _ _ _ _ _ _ _ _ hc1 hc2 hc3 (iblk m c 0 t) (iblk m c 1 t) (accAt m c ds t.val (Nat.le_of_lt t.isLt))).2 _ Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists ds
          unfold owns; iexists _; isplitr
          swap; · iexact HS
          ipureintro
          rw [runB_eq, readPieceB _ _ _ _ _ _ _ _ _ _ _ _ _ _ (t.val / 2) (half_lt t) (off2_eq t)]
          show _ = step m c t _
          unfold step
          rw [if_neg h0]
        iexact Hg
      isplitl [Ho]; · iexact Ho
      isplitl [H0]; · iexact H0
      isplitl [H1]; · iexact H1
      iexists _; iexact H2

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's ends: before the first point the accumulator holds anything, -/
theorem hin (c : Dev nD) : Pipeline.ΦA spec0 c ⊢ (dats m 0 c).Φ 0 := by
  rw [show (dats m 0 c).Φ 0 = Inv m c 0 (Nat.zero_le _) from rfl, PhiA_eq]
  exact Idealize.SL.BI.Entails.refl _

/-- and after the last its contents are forgotten. -/
theorem hout (c : Dev nD) : (dats m 0 c).Φ (Fin.last cfg0.N) ⊢ Pipeline.ΦA spec0 c := by
  rw [show (dats m 0 c).Φ (Fin.last cfg0.N) = Inv m c cfg0.N (le_refl _) from rfl, PhiA_eq]
  unfold Inv
  iintro ⟨⟨%ds, HS⟩, Hg⟩
  isplitl [HS]
  · iexists _; iexact HS
  iexact Hg

/-! ## The run -/

set_option backward.isDefEq.respectTransparency.types false in
set_option maxHeartbeats 800000 in
/-- The program runs to the end with its arrays as the proof data say and every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.KernelIdeal.Gen.Ohem

end
-- ==== Proof.RefFrame.lean ====
/- The reference runs, leaves its arguments as they were, and ends with every counter at zero. -/
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Lib.Quiescent

@[expose] public section

set_option maxRecDepth 16384

noncomputable section

namespace Cert.Ohem

open Idealize.ShloMosaic Idealize.SL.Sem

/-- The frame of the reference: its run, and that it declares no semaphore, so that every counter of it reads zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems rfl r.2⟩) (Cert.ReferenceIdeal.Value.run m g)

end Cert.Ohem

end
-- ==== Proof.Value.Loss.lean ====
/- One pixel: the log of the summed exponentials less the labelled score, as a real number, and the two spellings of it
   over the extended reals, the plain one and the one shifted by the greatest score. -/
module

public import Idealize.ShloMosaic.PureOps.Ideal
public import Idealize.ShloMosaic.PureOps.Ideal.Laws
public import Mathlib.Data.EReal.Operations
public import Mathlib.Data.Finset.Fold
public import Mathlib.Order.Fin.Basic
public import Mathlib.Analysis.SpecialFunctions.Log.Basic

@[expose] public section

set_option maxRecDepth 16384

noncomputable section

namespace Cert.Ohem
open Idealize.ShloMosaic

/-- A finite sum of reals, read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The loss of a pixel with scores `x` and label `k`. -/
def nll (x : Fin 19 → ℝ) (k : Fin 19) : ℝ := Real.log (∑ c, Real.exp (x c)) - x k

theorem sumExp_pos (x : Fin 19 → ℝ) : 0 < ∑ c, Real.exp (x c) :=
  Finset.sum_pos (fun c _ => Real.exp_pos _) ⟨0, Finset.mem_univ _⟩

/-- Directly. -/
theorem nll_plain (x : Fin 19 → ℝ) (k : Fin 19) :
    Ideal.log (∑ c, Ideal.exp ((x c : ℝ) : EReal)) - ((x k : ℝ) : EReal) = ((nll x k : ℝ) : EReal) := by
  simp only [Ideal.exp_coe]
  rw [coe_sum, Ideal.log_coe, if_neg (not_le.mpr (sumExp_pos x)), ← EReal.coe_sub]
  rfl

/-- The exponentials of scores all shifted by `μ`. -/
theorem log_shift (x : Fin 19 → ℝ) (μ : ℝ) : Real.log (∑ c, Real.exp (x c - μ)) = Real.log (∑ c, Real.exp (x c)) - μ := by
  have e : (∑ c, Real.exp (x c - μ)) = (∑ c, Real.exp (x c)) * Real.exp (-μ) := by
    rw [Finset.sum_mul]
    exact Finset.sum_congr rfl fun c _ => by rw [sub_eq_add_neg, Real.exp_add]
  rw [e, Real.log_mul (ne_of_gt (sumExp_pos x)) (ne_of_gt (Real.exp_pos _)), Real.log_exp, sub_eq_add_neg]

/-- With every score less `μ`, whatever `μ`. -/
theorem nll_shift (x : Fin 19 → ℝ) (k : Fin 19) (μ : ℝ) :
    -((((x k : ℝ) : EReal) - (μ : EReal)) - Ideal.log (0 + ∑ c, Ideal.exp (((x c : ℝ) : EReal) - (μ : EReal)))) = ((nll x k : ℝ) : EReal) := by
  rw [zero_add]
  simp only [← EReal.coe_sub, Ideal.exp_coe]
  rw [coe_sum, Ideal.log_coe, if_neg (not_le.mpr (sumExp_pos fun c => x c - μ)), ← EReal.coe_sub, ← EReal.coe_neg, log_shift]
  refine congrArg _ ?_
  unfold nll
  ring

/-- The greatest of finite scores is finite. -/
theorem foldMax_coe (x : Fin 19 → ℝ) : ∃ μ : ℝ, (Finset.univ.fold max (⊥ : EReal) fun c => ((x c : ℝ) : EReal)) = (μ : EReal) := by
  have h1 : (⊥ : EReal) < Finset.univ.fold max (⊥ : EReal) fun c => ((x c : ℝ) : EReal) :=
    (Finset.lt_fold_max _).mpr (Or.inr ⟨0, Finset.mem_univ _, EReal.bot_lt_coe _⟩)
  have h2 : (Finset.univ.fold max (⊥ : EReal) fun c => ((x c : ℝ) : EReal)) < ⊤ :=
    (Finset.fold_max_lt _).mpr ⟨bot_lt_top, fun c _ => EReal.coe_lt_top _⟩
  exact ⟨_, (EReal.coe_toReal (ne_of_lt h2) (ne_of_gt h1)).symm⟩

/-- With every score less the greatest. -/
theorem nll_max (x : Fin 19 → ℝ) (k : Fin 19) (M : EReal) (hM : M = Finset.univ.fold max (⊥ : EReal) fun c => ((x c : ℝ) : EReal)) :
    -((((x k : ℝ) : EReal) - M) - Ideal.log (0 + ∑ c, Ideal.exp (((x c : ℝ) : EReal) - M))) = ((nll x k : ℝ) : EReal) := by
  obtain ⟨μ, hμ⟩ := foldMax_coe x
  rw [hM, hμ]
  exact nll_shift x k μ

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]
theorem ofBits_pixels : Ideal.ofBits .f32 0x48800000#32 = ((262144 : ℝ) : EReal) := by
  simp [Ideal.ofBits, Ideal.ieee]
  rw [← EReal.coe_mul]
  norm_num
theorem ofBits_five : Ideal.ofBits .f32 0x40A00000#32 = ((5 : ℝ) : EReal) := by
  simp [Ideal.ofBits, Ideal.ieee]
  rw [← EReal.coe_mul]
  norm_num
theorem ofBits_fivePixels : Ideal.ofBits .f32 0x49A00000#32 = ((1310720 : ℝ) : EReal) := by
  simp [Ideal.ofBits, Ideal.ieee]
  rw [← EReal.coe_mul]
  norm_num

/-- Dividing a real by a real that is not zero. -/
theorem div_real (a b : ℝ) (hb : b ≠ 0) : Ideal.div ((a : ℝ) : EReal) ((b : ℝ) : EReal) = ((a / b : ℝ) : EReal) := by
  rw [Ideal.div_coe hb, ← EReal.coe_mul, mul_one_div]

end Cert.Ohem

end
-- ==== Proof.Value.Half.lean ====
/- The kernel over the extended reals at finite scores and labels in range: a half is, column by column, the summed losses of
   its pixels. -/
module

public import proofs.«01_k».proof.Proof.KernelIdeal.Rows
public import proofs.«01_k».proof.Proof.Value.Loss
public import Idealize.ShloMosaic.Lib.Pointwise

@[expose] public section

set_option maxRecDepth 16384

noncomputable section

namespace Cert.KernelIdeal.Gen.Ohem
open Idealize.ShloMosaic Idealize.ShloMosaic.TcCoe Idealize.SL.Sem
open Cert.Ohem (nll coe_sum nll_plain)

/-- The exponentials' running sum at a pixel. -/
theorem expSum_at (p : Fin 19 → Vec Ideal S1x1x16x512 .f32) (x : Fin 19 → ℝ) (r : Fin 16) (w : Fin 512)
    (hp : ∀ k : Fin 19, p k (ix4 0 0 r w) = ((x k : ℝ) : EReal)) : ∀ (n : ℕ) (h : n < 19),
    expSum (F := Ideal) p n h (ix2 r w) = ∑ k : Fin (n + 1), Ideal.exp ((x ⟨k.val, lt_of_lt_of_le k.isLt h⟩ : ℝ) : EReal)
  | 0, h => by
    pointwise [expSum]
    rw [Fin.sum_univ_one]
    exact congrArg Ideal.exp (hp _)
  | n + 1, h => by
    rw [Fin.sum_univ_castSucc]
    pointwise [expSum]
    refine Ideal.add_congr (expSum_at p x r w hp n (Nat.lt_of_succ_lt h)) ?_
    exact congrArg Ideal.exp (hp _)

theorem picked_at (l : IVec S16x512 32) (p : Fin 19 → Vec Ideal S1x1x16x512 .f32) (x : Fin 19 → ℝ) (k : Fin 19) (r : Fin 16) (w : Fin 512)
    (hp : ∀ k : Fin 19, p k (ix4 0 0 r w) = ((x k : ℝ) : EReal)) (hl : l (ix2 r w) = BitVec.ofNat 32 k.val) (n : ℕ) (h : n < 19) :
    picked (F := Ideal) l p n h (ix2 r w) = if k.val = n then ((x k : ℝ) : EReal) else 0 := by
  pointwise [picked]
  rw [hl, hp]
  have hk := k.isLt
  by_cases e : k.val = n
  · rw [if_pos e]
    subst e
    unfold Scalar.select IntOp.cmpi
    simp
  · rw [if_neg e]
    have : ¬ BitVec.ofNat 32 k.val = BitVec.ofNat 32 n := by
      intro h'
      have := congrArg BitVec.toNat h'
      simp only [BitVec.toNat_ofNat] at this
      omega
    unfold Scalar.select IntOp.cmpi
    simp [this]
    intro h'
    rw [beq_eq_false_iff_ne.mpr this] at h'
    exact absurd h' (by decide)

/-- The picked values' running sum at a pixel: the labelled score once its class is reached, zero before. -/
theorem pickSum_at (l : IVec S16x512 32) (p : Fin 19 → Vec Ideal S1x1x16x512 .f32) (x : Fin 19 → ℝ) (k : Fin 19) (r : Fin 16) (w : Fin 512)
    (hp : ∀ k : Fin 19, p k (ix4 0 0 r w) = ((x k : ℝ) : EReal)) (hl : l (ix2 r w) = BitVec.ofNat 32 k.val) : ∀ (n : ℕ) (h : n < 19),
    pickSum (F := Ideal) l p n h (ix2 r w) = if k.val ≤ n then ((x k : ℝ) : EReal) else 0
  | 0, h => by
    unfold pickSum
    rw [picked_at l p x k r w hp hl 0 h]
    simp only [Nat.le_zero]
  | n + 1, h => by
    show pickSum (F := Ideal) l p n _ (ix2 r w) + picked (F := Ideal) l p (n + 1) h (ix2 r w) = _
    rw [pickSum_at l p x k r w hp hl n, picked_at l p x k r w hp hl (n + 1) h]
    by_cases h1 : k.val ≤ n
    · rw [if_pos h1, if_neg (by omega), if_pos (by omega), add_zero]
    · by_cases h2 : k.val = n + 1
      · rw [if_neg h1, if_pos h2, if_pos (by omega), zero_add]
      · rw [if_neg h1, if_neg h2, if_neg (by omega), add_zero]

/-- A strip's column sums. -/
theorem stripRow_at (l : Vec Ideal S1x1x16x512 .i32) (p : Fin 19 → Vec Ideal S1x1x16x512 .f32) (x : Fin 19 → Fin 16 → ℝ) (k : Fin 16 → Fin 19) (w : Fin 512)
    (hp : ∀ (k : Fin 19) (r : Fin 16), p k (ix4 0 0 r w) = ((x k r : ℝ) : EReal)) (hl : ∀ r : Fin 16, l (ix4 0 0 r w) = BitVec.ofNat 32 (k r).val) :
    stripRow (F := Ideal) l p (ix2 0 w) = ((∑ r : Fin 16, nll (fun c => x c r) (k r) : ℝ) : EReal) := by
  pointwise [stripRow, stripLoss]
  rw [← coe_sum]
  refine Finset.sum_congr rfl fun r _ => ?_
  rw [expSum_at p (fun c => x c r) r w (fun c => hp c r) 18 (by decide),
    pickSum_at _ p (fun c => x c r) (k r) r w (fun c => hp c r) (by pointwise; exact hl r) 18 (by decide), if_pos (by have := (k r).isLt; omega)]
  exact nll_plain (fun c => x c r) (k r)

/-- The strips' running sum. -/
theorem rowSum_at (l : Fin 16 → Vec Ideal S1x1x16x512 .i32) (p : Fin 16 → Fin 19 → Vec Ideal S1x1x16x512 .f32) (x : Fin 16 → Fin 19 → Fin 16 → ℝ)
    (k : Fin 16 → Fin 16 → Fin 19) (w : Fin 512) (hp : ∀ (i : Fin 16) (k : Fin 19) (r : Fin 16), p i k (ix4 0 0 r w) = ((x i k r : ℝ) : EReal))
    (hl : ∀ i r : Fin 16, l i (ix4 0 0 r w) = BitVec.ofNat 32 (k i r).val) : ∀ (n : ℕ) (h : n ≤ 16),
    rowSum (F := Ideal) l p n h (ix2 0 w)
      = ((∑ i : Fin n, ∑ r : Fin 16, nll (fun c => x ⟨i.val, lt_of_lt_of_le i.isLt h⟩ c r) (k ⟨i.val, lt_of_lt_of_le i.isLt h⟩ r) : ℝ) : EReal)
  | 0, h => by
    pointwise [rowSum]
    simp
  | n + 1, h => by
    show rowSum (F := Ideal) l p n _ (ix2 0 w) + stripRow (F := Ideal) (l ⟨n, h⟩) (p ⟨n, h⟩) (ix2 0 w) = _
    rw [rowSum_at l p x k w hp hl n, stripRow_at (l ⟨n, h⟩) (p ⟨n, h⟩) (x ⟨n, h⟩) (k ⟨n, h⟩) w (hp ⟨n, h⟩) (hl ⟨n, h⟩), Fin.sum_univ_castSucc (n := n), ← EReal.coe_add]
    rfl

/-- A strip's pixel is the block's. -/
theorem st0_at (x0 : Vec Ideal S1x19x256x512 .f32) (i : Fin 16) (k : Fin 19) (r : Fin 16) (w : Fin 512) :
    st0 (F := Ideal) x0 i k (ix4 0 0 r w) = x0 (ix4 0 k ⟨i.val * 16 + r.val, by omega⟩ w) := by
  unfold st0 VecWindow.window
  refine congrArg x0 (funext fun a => Fin.ext ?_)
  fin_cases a
  · rfl
  · show k.val + 1 * 0 = k.val; omega
  · show 16 * i.val + 1 * r.val = i.val * 16 + r.val; omega
  · show 0 + 1 * w.val = w.val; omega

theorem st1_at (x1 : Vec Ideal S1x1x256x512 .i32) (i : Fin 16) (r : Fin 16) (w : Fin 512) :
    st1 (F := Ideal) x1 i (ix4 0 0 r w) = x1 (ix4 0 0 ⟨i.val * 16 + r.val, by omega⟩ w) := by
  unfold st1 VecWindow.window
  refine congrArg x1 (funext fun a => Fin.ext ?_)
  fin_cases a
  · rfl
  · rfl
  · show 16 * i.val + 1 * r.val = i.val * 16 + r.val; omega
  · show 0 + 1 * w.val = w.val; omega

/-- A half's sums: column by column the losses of its 256 rows. -/
theorem half_at (x0 : Vec Ideal S1x19x256x512 .f32) (x1 : Vec Ideal S1x1x256x512 .i32) (x : Fin 19 → Fin 256 → ℝ) (k : Fin 256 → Fin 19) (w : Fin 512)
    (hp : ∀ (c : Fin 19) (r : Fin 256), x0 (ix4 0 c r w) = ((x c r : ℝ) : EReal)) (hl : ∀ r : Fin 256, x1 (ix4 0 0 r w) = BitVec.ofNat 32 (k r).val) :
    half (F := Ideal) x0 x1 (ix2 0 w) = ((∑ r : Fin 256, nll (fun c => x c r) (k r) : ℝ) : EReal) := by
  unfold half
  rw [rowSum_at (st1 x1) (st0 x0) (fun i c r => x c ⟨i.val * 16 + r.val, by omega⟩) (fun i r => k ⟨i.val * 16 + r.val, by omega⟩) w
    (fun i c r => (st0_at x0 i c r w).trans (hp _ _)) (fun i r => (st1_at x1 i r w).trans (hl _)) 16 (le_refl _),
    Fin.sum_univ_tiles 16 16 rfl fun r : Fin 256 => nll (fun c => x c r) (k r)]

end Cert.KernelIdeal.Gen.Ohem

end
-- ==== Proof.Value.Rank.lean ====
/- Eight numbers ordered greatest first, equal ones by position: a stable sort puts at place `k` the position that `k`
   others come before. -/
module

public import Idealize.ShloMosaic.Lib.SortPrefix
public import Idealize.ShloMosaic.Lib.SortFacts
public import Mathlib.Data.Real.Basic
public import Mathlib.Algebra.BigOperators.Group.Finset.Basic

@[expose] public section

set_option maxRecDepth 16384

noncomputable section

namespace Cert.Ohem
open Idealize.ShloMosaic

variable {n : ℕ} (K : Fin n → ℝ)

/-- Position `a` comes before position `b`: its number is greater, or equal and it stands first. -/
def ahead (a b : Fin n) : Bool := decide (K b < K a) || (decide (K a = K b) && decide (a < b))

theorem ahead_total : StrictTotalBefore (ahead K) :=
  StrictTotalBefore.of_key_then_position (fun x y : ℝ => decide (y < x)) K (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- On positions in increasing order a stable sort that compares the numbers alone keeps equal ones in order. -/
theorem stableSort_greater : ∀ l : List (Fin n), l.Pairwise (· < ·) →
    stableSort (fun a b => decide (K b < K a)) l = stableSort (ahead K) l
  | [], _ => rfl
  | a :: l, h => by
    obtain ⟨h1, h2⟩ := List.pairwise_cons.mp h
    show insertBefore _ a (stableSort _ l) = insertBefore _ a (stableSort _ l)
    rw [stableSort_greater l h2]
    refine insertBefore_congr _ _ a _ fun b hb => ?_
    have hab : a < b := h1 b ((perm_stableSort (ahead K) l).mem_iff.mp hb)
    unfold ahead
    rw [decide_eq_false (not_lt.mpr (le_of_lt hab)), Bool.and_false, Bool.or_false]

theorem sortedFrom_greater (k : Fin n) : sortedFrom (fun a b => decide (K b < K a)) k = sortedFrom (ahead K) k := by
  have e : sortPositions n (fun a b => decide (K b < K a)) = sortPositions n (ahead K) :=
    stableSort_greater K _ (List.pairwise_lt_finRange n)
  unfold sortedFrom
  simp only [List.get_eq_getElem, Fin.val_cast]
  exact List.getElem_of_eq e _

/-- How many positions come before `b`. -/
def rank (b : Fin n) : ℕ := (Finset.univ.filter fun j => ahead K j b = true).card

theorem ahead_sorted (i j : Fin n) : ahead K (sortedFrom (ahead K) i) (sortedFrom (ahead K) j) = true ↔ i < j := by
  have hT := ahead_total K
  have hno := sortedFrom_noInversion (ahead K) (ahead K) (fun a b => hT.asymm a b) (fun a b h => h) (fun a b c => hT.negTrans a b c)
  constructor
  · intro h
    rcases lt_trichotomy i j with hl | he | hg
    · exact hl
    · subst he; rw [hT.irrefl] at h; exact absurd h (by decide)
    · rw [hno j i hg] at h; exact absurd h (by decide)
  · intro hl
    rcases hT.total _ _ (fun e => (ne_of_lt hl) (sortedFrom_injective (ahead K) e)) with h | h
    · exact h
    · rw [hno i j hl] at h; exact absurd h (by decide)

theorem rank_sorted (k : Fin n) : rank K (sortedFrom (ahead K) k) = k.val := by
  have hb : Function.Bijective (sortedFrom (ahead K)) := ⟨sortedFrom_injective _, sortedFrom_surjective _⟩
  have e : (Finset.univ.filter fun j => ahead K j (sortedFrom (ahead K) k) = true)
      = (Finset.Iio k).map ⟨sortedFrom (ahead K), hb.1⟩ := by
    ext j
    obtain ⟨i, rfl⟩ := hb.2 j
    simp only [Finset.mem_filter, Finset.mem_univ, true_and, Finset.mem_map, Finset.mem_Iio, Function.Embedding.coeFn_mk]
    rw [ahead_sorted]
    constructor
    · exact fun h => ⟨i, h, rfl⟩
    · rintro ⟨i', h, e⟩
      rwa [← hb.1 e]
  unfold rank
  rw [e, Finset.card_map, Fin.card_Iio]

/-- The sum over the positions of rank below `k` is the sum over the first `k` places of the sort. -/
theorem sum_rank_lt (f : Fin n → ℝ) (k : ℕ) (hk : k ≤ n) :
    (∑ b, if rank K b < k then f b else 0) = ∑ i : Fin k, f (sortedFrom (ahead K) (i.castLE hk)) := by
  have hb : Function.Bijective (sortedFrom (ahead K)) := ⟨sortedFrom_injective _, sortedFrom_surjective _⟩
  rw [← Equiv.sum_comp (Equiv.ofBijective _ hb)]
  simp only [Equiv.ofBijective_apply, rank_sorted]
  obtain ⟨d, rfl⟩ := Nat.exists_eq_add_of_le hk
  rw [Fin.sum_univ_add]
  have hz : (∑ i : Fin d, if ((Fin.natAdd k i : Fin (k + d)) : ℕ) < k then f (sortedFrom (ahead K) (Fin.natAdd k i)) else 0) = 0 :=
    Finset.sum_eq_zero fun i _ => if_neg (by rw [Fin.val_natAdd]; omega)
  rw [hz, add_zero]
  refine Finset.sum_congr rfl fun i _ => ?_
  rw [if_pos (by rw [Fin.val_castAdd]; exact i.isLt)]
  rfl

end Cert.Ohem

end
-- ==== Proof.Value.Out.lean ====
/- The last point over the extended reals: from a finite accumulator, the sum of the rows whose rank is below five, divided by
   the number of their pixels. -/
module

public import proofs.«01_k».proof.Proof.KernelIdeal.Rows
public import proofs.«01_k».proof.Proof.Value.Loss
public import proofs.«01_k».proof.Proof.Value.Rank
public import Idealize.ShloMosaic.Lib.Pointwise

@[expose] public section

set_option maxRecDepth 16384

noncomputable section

namespace Cert.KernelIdeal.Gen.Ohem
open Idealize.ShloMosaic Idealize.ShloMosaic.TcCoe Idealize.SL.Sem
open Cert.Ohem (coe_sum ahead rank ofBits_fivePixels div_real)

/-- A sum of words that are naturals is the word of the naturals' sum. -/
theorem fold_addi_ofNat {ι : Type} (s : Finset ι) (g : ι → ℕ) :
    Finset.fold IntOp.addi (0#32) (fun j => BitVec.ofNat 32 (g j)) s = BitVec.ofNat 32 (∑ j ∈ s, g j) := by
  classical
  induction s using Finset.induction_on with
  | empty => simp
  | insert a s ha ih =>
    rw [Finset.fold_insert ha, Finset.sum_insert ha, ih]
    show BitVec.ofNat 32 (g a) + BitVec.ofNat 32 _ = _
    rw [← BitVec.ofNat_add]

theorem slt_pos : ∀ i j : Fin 8, IntOp.cmpi .slt (BitVec.ofNat 32 j.val) (BitVec.ofNat 32 i.val) = BitVec.ofBool (decide (j < i)) := by decide

/-- The word a comparison of two rows leaves: one if the first comes before the second. -/
theorem word_ahead (p q r : Bool) : BitVec.setWidth 32 (IntOp.ori (BitVec.ofBool p) (IntOp.andi (BitVec.ofBool q) (BitVec.ofBool r)))
    = BitVec.ofNat 32 (if (p || (q && r)) = true then 1 else 0) := by
  cases p <;> cases q <;> cases r <;> decide

theorem slt_five : ∀ n : Fin 9, IntOp.cmpi .slt (BitVec.ofNat 32 n.val) 5#32 = BitVec.ofBool (decide (n.val < 5)) := by decide

theorem rank_lt {n : ℕ} (S : Fin n → ℝ) (b : Fin n) : rank S b < n + 1 := by
  unfold rank
  exact Nat.lt_succ_of_le ((Finset.card_le_univ _).trans_eq (Fintype.card_fin n))

theorem select_ofBool {α : Type} (b : Bool) (x y : α) : Scalar.select (BitVec.ofBool b) x y = if b = true then x else y := by
  cases b <;> rfl

/-- The rank of a row, as the word the kernel counts. -/
theorem count_at (S : Fin 8 → ℝ) (i : Fin 8) :
    Finset.fold IntOp.addi (0#32)
      (fun j : Fin 8 => BitVec.setWidth 32 (IntOp.ori (BitVec.ofBool (decide (((S i : ℝ) : EReal) < ((S j : ℝ) : EReal))))
        (IntOp.andi (BitVec.ofBool (decide (((S j : ℝ) : EReal) = ((S i : ℝ) : EReal)))) (IntOp.cmpi .slt (BitVec.ofNat 32 j.val) (BitVec.ofNat 32 i.val)))))
      Finset.univ = BitVec.ofNat 32 (rank S i) := by
  rw [show rank S i = ∑ j : Fin 8, (if ahead S j i = true then 1 else 0) from Finset.card_filter _ _, ← fold_addi_ofNat]
  refine congrArg (fun f => Finset.fold IntOp.addi (0#32) f Finset.univ) (funext fun j => ?_)
  rw [slt_pos, word_ahead]
  unfold ahead
  simp only [EReal.coe_lt_coe_iff, EReal.coe_eq_coe_iff]

/-- The output from a finite accumulator. -/
theorem pay1_at (a : FVec Ideal S8x512 .f32) (A : Fin 8 → Fin 512 → ℝ) (ha : ∀ (b : Fin 8) (w : Fin 512), a (ix2 b w) = ((A b w : ℝ) : EReal))
    (r : Fin 8) (l : Fin 128) : k0_pay1 (F := Ideal) a (ix2 r l)
      = (((∑ b : Fin 8, if rank (fun b => ∑ w, A b w) b < 5 then ∑ w, A b w else 0) / 1310720 : ℝ) : EReal) := by
  have hs : ∀ b : Fin 8, (∑ w : Fin 512, a (ix2 b w)) = ((∑ w, A b w : ℝ) : EReal) := fun b => by
    rw [← coe_sum]
    exact Finset.sum_congr rfl fun w _ => ha b w
  pointwise [k0_pay1]
  simp only [hs]
  rw [ofBits_fivePixels, ← div_real _ _ (by norm_num), ← coe_sum]
  refine congrArg (fun z => Ideal.div z _) (Finset.sum_congr rfl fun b _ => ?_)
  rw [count_at (fun b => ∑ w, A b w) b, slt_five ⟨_, rank_lt (fun b => ∑ w, A b w) b⟩, select_ofBool]
  simp only [decide_eq_true_eq]
  by_cases h : rank (fun b => ∑ w, A b w) b < 5
  · rw [if_pos h, if_pos h]
  · rw [if_neg h, if_neg h]; rfl

end Cert.KernelIdeal.Gen.Ohem

end
-- ==== Proof.Value.Full.lean ====
/- The kernel over the extended reals at finite scores and labels in range: the completed accumulator holds, row by row, the
   summed losses of a sample, and the result the average of the five largest. -/
module

public import proofs.«01_k».proof.Proof.KernelIdeal.Data
public import proofs.«01_k».proof.Proof.Value.Half
public import proofs.«01_k».proof.Proof.Value.Out
public import Idealize.ShloMosaic.Lib.Pipeline.ValueKit

@[expose] public section

set_option maxRecDepth 16384

noncomputable section

namespace Cert.KernelIdeal.Gen.Ohem
open Idealize.ShloMosaic Idealize.ShloMosaic.TcCoe Idealize.SL.Sem
open Idealize.ShloMosaic.Pipeline (Dat)
open Cert.Ohem (coe_sum nll rank)

variable (m : (ℓ : Loc nD τ sig) → Buf (Elt Ideal) ℓ)

/-- The blocks the three windows hold at a point. -/
theorem idx : ∀ t : Fin cfg0.N, win0_0.index t = ![t.val / 2, 0, t.val % 2, 0] ∧ win0_1.index t = ![t.val / 2, 0, t.val % 2, 0]
    ∧ win0_2.index t = ![0, 0] :=
  (by decide +kernel : ∀ t : Fin grid0.N, _)

/-- The image row that half `o` has at its row `r`. -/
abbrev rowOf (o : Fin 2) (r : Fin 256) : Fin 512 := ⟨o.val * 256 + r.val, by omega⟩

theorem scores_at (c : Dev nD) (t : Fin cfg0.N) (b : Fin 8) (o : Fin 2) (ht : t.val = 2 * b.val + o.val) (q : Fin 19) (r : Fin 256) (w : Fin 512) :
    (iblk m c 0 t : Vec Ideal S1x19x256x512 .f32) (ix4 0 q r w) = m ((c.tc : Thread nD τ).loc main_arg0) (ix4 b q (rowOf o r) w) := by
  have h1 : t.val / 2 = b.val := by omega
  have h2 : t.val % 2 = o.val := by omega
  blk_ext [iblk, V, idx t, h1, h2]

theorem labels_at (c : Dev nD) (t : Fin cfg0.N) (b : Fin 8) (o : Fin 2) (ht : t.val = 2 * b.val + o.val) (r : Fin 256) (w : Fin 512) :
    (iblk m c 1 t : Vec Ideal S1x1x256x512 .i32) (ix4 0 0 r w) = m ((c.tc : Thread nD τ).loc main_arg1) (ix4 b 0 (rowOf o r) w) := by
  have h1 : t.val / 2 = b.val := by omega
  have h2 : t.val % 2 = o.val := by omega
  blk_ext [iblk, V, idx t, h1, h2]

/-- A column of the completed accumulator. -/
theorem full_at (c : Dev nD) (x : Fin 8 → Fin 19 → Fin 512 → Fin 512 → ℝ) (k : Fin 8 → Fin 512 → Fin 512 → Fin 19)
    (hx : ∀ b q r w, m ((c.tc : Thread nD τ).loc main_arg0) (ix4 b q r w) = ((x b q r w : ℝ) : EReal))
    (hk : ∀ b r w, m ((c.tc : Thread nD τ).loc main_arg1) (ix4 b 0 r w) = BitVec.ofNat 32 (k b r w).val) (b : Fin 8) (w : Fin 512) :
    full (F := Ideal) m c (ix2 b w) = ((∑ r : Fin 512, nll (fun q => x b q r w) (k b r w) : ℝ) : EReal) := by
  have h : ∀ (t : Fin cfg0.N) (o : Fin 2), t.val = 2 * b.val + o.val → halfAt m c t (ix2 0 w)
      = ((∑ r : Fin 256, nll (fun q => x b q (rowOf o r) w) (k b (rowOf o r) w) : ℝ) : EReal) := fun t o ht =>
    half_at _ _ (fun q r => x b q (rowOf o r) w) (fun r => k b (rowOf o r) w) w
      (fun q r => (scores_at m c t b o ht q r w).trans (hx ..)) (fun r => (labels_at m c t b o ht r w).trans (hk ..))
  rw [Fin.sum_univ_tiles 2 256 rfl, Fin.sum_univ_two, EReal.coe_add]
  exact Ideal.add_congr (h (pt0 b) 0 rfl) (h (pt1 b) 1 rfl)

/-- The output array after the run. -/
theorem final (c : Dev nD) : (dats m 0 c).arrAt 2 (cfgs 0).N = k0_pay1 (F := Ideal) (full m c) := by
  refine (dats m 0 c).arrAt_eq_of_after_last 2 t0_15 (by decide +kernel) _ fun j => ?_
  blk_simp
  rw [after2]

end Cert.KernelIdeal.Gen.Ohem

end
-- ==== Proof.Value.Tail.lean ====
/- The result of the kernel after its run: the output array, its first entry taken. -/
module

public import proofs.«01_k».proof.Proof.Value.Full

@[expose] public section

set_option maxRecDepth 16384

noncomputable section

namespace Cert.KernelIdeal.Gen.Ohem
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

theorem tail_eq (c : Dev nD) : Pipeline.afterTail₀ cfgs (dats m) 0 (V0 m) [hostOps1] c main_v2
    = shapeCast S_ (extractStridedSlice S1x1 ![0, 0] (k0_pay1 (F := Ideal) (full m c)) slices_S8x128_S1x1_0_0) shapeCasts_S1x1_S_ := by
  unfold Pipeline.afterTail₀
  rw [← final m c]
  show after hostOps1 _ _ = _
  after_results
  have h : Pipeline.withArrays (cfgs 0).spec c (V0 m c) (fun w => (dats m 0 c).arrAt w (cfgs 0).N)
      (Proc.tc.devRef main_v0) = (dats m 0 c).arrAt 2 (cfgs 0).N :=
    Pipeline.withArrays_arr spec0 launch0.win.arr_inj c (V0 m c) (fun w => (dats m 0 c).arrAt w (cfgs 0).N) 2
  rw [h]
  rfl

theorem corner (Y : FVec Ideal S8x128 .f32) (j : S_.Idx) :
    shapeCast S_ (extractStridedSlice S1x1 ![0, 0] Y slices_S8x128_S1x1_0_0) shapeCasts_S1x1_S_ j = Y (ix2 0 0) := by
  pointwise

end Cert.KernelIdeal.Gen.Ohem

end
-- ==== Proof.Value.Ref.lean ====
/- The reference over the extended reals at finite scores and labels in range, in named steps: the log-softmax, the loss of a
   pixel, the mean loss of a sample. -/
module

public import proofs.«01_k».proof.Proof.Gen.ReferenceIdeal.Run
public import proofs.«01_k».proof.Proof.Value.Loss
public import Idealize.ShloMosaic.Lib.Pointwise
public import Idealize.ShloMosaic.Lib.ReduceAll

@[expose] public section

set_option maxRecDepth 16384

noncomputable section

namespace Cert.ReferenceIdeal.Ohem
open Cert.ReferenceIdeal Cert.ReferenceIdeal.Gen Idealize.ShloMosaic Idealize.ShloMosaic.TcCoe Idealize.SL.Sem
open Cert.Ohem (coe_sum nll nll_max ofBits_negInf ofBits_pixels ofBits_five div_real)

/-- The largest score of each pixel. -/
def MX (X : FVec Ideal S8x19x512x512 .f32) : FVec Ideal S8x512x512 .f32 :=
  maximumf (broadcastInDim S8x512x512 ![] bcast_S_S8x512x512 (constant S_ .f32 0xFF800000#32))
    (Host.reduce FloatOps.maximumf X (constant S_ .f32 0xFF800000#32) reducesTo_S8x19x512x512_S8x512x512_d1 h_S_)

/-- The scores less the largest of their pixel. -/
def SH (X : FVec Ideal S8x19x512x512 .f32) : FVec Ideal S8x19x512x512 .f32 :=
  subf X (broadcastInDim S8x19x512x512 ![0, 1, 2, 3] bcast_S8x1x512x512_S8x19x512x512_0_1_2_3
    (broadcastInDim S8x1x512x512 ![0, 2, 3] bcast_S8x512x512_S8x1x512x512_0_2_3 (MX X)))

/-- The log-softmax. -/
def LOGP (X : FVec Ideal S8x19x512x512 .f32) : FVec Ideal S8x19x512x512 .f32 :=
  subf (SH X) (broadcastInDim S8x19x512x512 ![0, 1, 2, 3] bcast_S8x1x512x512_S8x19x512x512_0_1_2_3
    (Host.log (broadcastInDim S8x1x512x512 ![0, 2, 3] bcast_S8x512x512_S8x1x512x512_0_2_3
      (Host.reduceAdd (Host.exp (SH X)) (constant S_ .f32 0x00000000#32) reducesTo_S8x19x512x512_S8x512x512_d1 h_S_))))

/-- The labels, without their axis of one and with it again. -/
def LB (L : IVec S8x1x512x512 32) : IVec S8x1x512x512 32 :=
  broadcastInDim S8x1x512x512 ![0, 2, 3] bcast_S8x512x512_S8x1x512x512_0_2_3 (shapeCast S8x512x512 L shapeCasts_S8x1x512x512_S8x512x512)

/-- The index a label is read as: a negative one counts from the end. -/
def IDX (L : IVec S8x1x512x512 32) : IVec S8x1x512x512x1 32 :=
  shapeCast S8x1x512x512x1 (select (cmpi .slt (LB L) (broadcastInDim S8x1x512x512 ![] bcast_S_S8x1x512x512 (constantI S_ 32 0#32)))
    (addi (LB L) (broadcastInDim S8x1x512x512 ![] bcast_S_S8x1x512x512 (constantI S_ 32 19#32))) (LB L)) shapeCasts_S8x1x512x512_S8x1x512x512x1

/-- Where the index is within the classes. -/
def OK (L : IVec S8x1x512x512 32) : IVec S8x1x512x512 1 :=
  Host.reduce IntOp.andi
    (andi (cmpi .sge (IDX L) (broadcastInDim S8x1x512x512x1 ![] bcast_S_S8x1x512x512x1 (constantI S_ 32 0#32)))
      (cmpi .sle (IDX L) (broadcastInDim S8x1x512x512x1 ![0, 1, 2, 3, 4] bcast_S1x1x1x1x1_S8x1x512x512x1_0_1_2_3_4
        (broadcastInDim S1x1x1x1x1 ![4] bcast_S1_S1x1x1x1x1_4 (constantI S1 32 18#32)))))
    (constantI S_ 1 1#1) reducesTo_S8x1x512x512x1_S8x1x512x512_d4 h_S_

/-- The log-probability of each pixel's label. -/
def TAKEN (X : FVec Ideal S8x19x512x512 .f32) (L : IVec S8x1x512x512 32) : FVec Ideal S8x1x512x512 .f32 :=
  select (OK L) (Host.gather gather_S8x19x512x512_S8x1x512x512x1_S8x1x512x512_n_1_023_023_1_4_1111 (LOGP X) (IDX L))
    (broadcastInDim S8x1x512x512 ![] bcast_S_S8x1x512x512 (constant S_ .f32 0x7FC00000#32))

/-- The mean loss of each sample. -/
def PS (X : FVec Ideal S8x19x512x512 .f32) (L : IVec S8x1x512x512 32) : FVec Ideal S8 .f32 :=
  Host.divf (Host.reduceAdd (Host.negf (shapeCast S8x512x512 (TAKEN X L) shapeCasts_S8x1x512x512_S8x512x512))
      (constant S_ .f32 0x00000000#32) reducesTo_S8x512x512_S8_d1_2 h_S_)
    (broadcastInDim S8 ![] bcast_S_S8 (constant S_ .f32 0x48800000#32))

/-- The samples of the five largest means. -/
def TK (P : FVec Ideal S8 .f32) : IVec S5 32 := (Host.topK S5 0 (FloatOps.cmpfTotal .gt) P sliceFits_S8_S5).2

/-- The mean of the five means at the positions `T`. -/
def TOP (P : FVec Ideal S8 .f32) (T : IVec S5 32) : FVec Ideal S_ .f32 :=
  Host.divf (Host.reduceAdd (Host.gather gather_S8_S5x1_S5_n_0_n_n_0_1_1 P (broadcastInDim S5x1 ![0] bcast_S5_S5x1_0
      (select (cmpi .slt T (broadcastInDim S5 ![] bcast_S_S5 (constantI S_ 32 0#32)))
        (addi T (broadcastInDim S5 ![] bcast_S_S5 (constantI S_ 32 8#32))) T)))
      (constant S_ .f32 0x00000000#32) reducesTo_S5_S_d0 h_S_) (constant S_ .f32 0x40A00000#32)

/-- The reference's result is the composition of the steps. -/
theorem res_eq (m : (ℓ : Loc nD τ sig) → Buf (Elt Ideal) ℓ) (c : Dev nD) (X : FVec Ideal S8x19x512x512 .f32) (L : IVec S8x1x512x512 32)
    (hX : m ((c.tc : Thread nD τ).loc main_arg0) = X) (hL : m ((c.tc : Thread nD τ).loc main_arg1) = L) :
    Value.res_main_v17 (F := Ideal) m c = TOP (PS X L) (TK (PS X L)) := by
  subst hX hL
  rfl

end Cert.ReferenceIdeal.Ohem

end
-- ==== Proof.Value.Pixel.lean ====
module
public import proofs.«01_k».proof.Proof.Value.Ref
@[expose] public section

set_option maxRecDepth 16384

noncomputable section

namespace Cert.ReferenceIdeal.Ohem
open Cert.ReferenceIdeal Cert.ReferenceIdeal.Gen Idealize.ShloMosaic Idealize.ShloMosaic.TcCoe Idealize.SL.Sem
open Cert.Ohem (coe_sum nll nll_max ofBits_negInf ofBits_pixels ofBits_five div_real)
/-- A maximum over the second axis of four: a fold over that axis. -/
theorem max_axis1 {n0 n1 n2 n3 : ℕ} (X : FVec Ideal ⟨4, ![n0, n1, n2, n3]⟩ .f32) (v : FVec Ideal S_ .f32)
    (h : (⟨4, ![n0, n1, n2, n3]⟩ : Shape).ReducesTo [1] ⟨3, ![n0, n2, n3]⟩) (hu : 0 < S_.numel) (b : Fin n0) (r : Fin n2) (w : Fin n3) :
    Host.reduce FloatOps.maximumf X v h hu (ix3 b r w)
      = Finset.fold max (v (Shape.Idx.first hu)) (fun q => X (ix4 b q r w)) Finset.univ := by
  pointwise

theorem max_ap {s : Shape} (a c : FVec Ideal s .f32) (j : s.Idx) : maximumf a c j = max (a j) (c j) := rfl

theorem scalar_ap {s : Shape} (h : S_.BroadcastsInDim s ![]) (v : FVec Ideal S_ .f32) (z : EReal) (hv : ∀ i, v i = z) (j : s.Idx) :
    broadcastInDim s ![] h v j = z := hv _

theorem negInf_at (i : S_.Idx) : constant (F := Ideal) S_ .f32 0xFF800000#32 i = ⊥ := ofBits_negInf

/-- The largest score of a pixel. -/
theorem MX_at (X : FVec Ideal S8x19x512x512 .f32) (b : Fin 8) (r w : Fin 512) : MX X (ix3 b r w)
    = Finset.fold max ⊥ (fun q => X (ix4 b q r w)) Finset.univ := by
  unfold MX
  rw [max_ap, scalar_ap _ _ _ negInf_at, max_axis1, negInf_at]
  exact max_eq_right bot_le

/-- The entry a pixel's label picks: the score of that class there. -/
theorem gather_at {α : Type} (P : S8x19x512x512.Idx → α) (I : IVec S8x1x512x512x1 32) (b : Fin 8) (r w : Fin 512) (k : Fin 19)
    (hk : I (ix5 b 0 r w 0) = BitVec.ofNat 32 k.val) :
    Host.gather gather_S8x19x512x512_S8x1x512x512x1_S8x1x512x512_n_1_023_023_1_4_1111 P I (ix4 b 0 r w) = P (ix4 b k r w) := by
  have hc : min (BitVec.ofNat 32 k.val).toInt.toNat 18 = k.val := by clear hk; revert k; decide
  generalize hd : gather_S8x19x512x512_S8x1x512x512x1_S8x1x512x512_n_1_023_023_1_4_1111 = d
  have hn : ∀ a : Fin 4, d.offCoord (ix4 b 0 r w) a = 0 := fun a => d.offCoord_eq_zero _ _ (by subst hd; revert a; decide)
  have hs : ∀ a : Fin 4, a ≠ 1 → d.start (ix4 b 0 r w) I a = 0 := fun a ha => d.start_batching _ _ _ (by subst hd; revert a; decide)
  have h0 : d.batchCoord (ix4 b 0 r w) (0 : Fin 4) = b.val := by subst hd; rfl
  have h1 : d.batchCoord (ix4 b 0 r w) (1 : Fin 4) = 0 := by subst hd; rfl
  have h2 : d.batchCoord (ix4 b 0 r w) (2 : Fin 4) = r.val := by subst hd; rfl
  have h3 : d.batchCoord (ix4 b 0 r w) (3 : Fin 4) = w.val := by subst hd; rfl
  have hl : d.start (ix4 b 0 r w) I (1 : Fin 4) = k.val := by
    unfold GatherDims.start
    rw [dif_pos (by subst hd; decide)]
    refine Eq.trans ?_ hc
    rw [← hk]
    subst hd
    refine congrArg (fun i => min (I i).toInt.toNat 18) (funext fun e => ?_)
    match e with
    | ⟨0, _⟩ => rfl
    | ⟨1, _⟩ => rfl
    | ⟨2, _⟩ => rfl
    | ⟨3, _⟩ => rfl
    | ⟨4, _⟩ => rfl
  unfold Host.gather
  refine congrArg P (funext fun a => Fin.ext ?_)
  match a with
  | ⟨0, _⟩ => exact (congrArg₂ Nat.add (congrArg₂ Nat.add (hs 0 (by decide)) h0) (hn 0)).trans (Nat.zero_add _)
  | ⟨1, _⟩ => exact congrArg₂ Nat.add (congrArg₂ Nat.add hl h1) (hn 1)
  | ⟨2, _⟩ => exact (congrArg₂ Nat.add (congrArg₂ Nat.add (hs 2 (by decide)) h2) (hn 2)).trans (Nat.zero_add _)
  | ⟨3, _⟩ => exact (congrArg₂ Nat.add (congrArg₂ Nat.add (hs 3 (by decide)) h3) (hn 3)).trans (Nat.zero_add _)

theorem SH_at (X : FVec Ideal S8x19x512x512 .f32) (b : Fin 8) (q : Fin 19) (r w : Fin 512) : SH X (ix4 b q r w)
    = X (ix4 b q r w) - MX X (ix3 b r w) := by
  pointwise [SH]

theorem LOGP_at (X : FVec Ideal S8x19x512x512 .f32) (b : Fin 8) (q : Fin 19) (r w : Fin 512) : LOGP X (ix4 b q r w)
    = SH X (ix4 b q r w) - Ideal.log (∑ q : Fin 19, Ideal.exp (SH X (ix4 b q r w))) := by
  pointwise [LOGP]

/-- The log-probability of a class at a pixel, negated. -/
theorem neg_LOGP_at (X : FVec Ideal S8x19x512x512 .f32) (b : Fin 8) (r w : Fin 512) (x : Fin 19 → ℝ)
    (hx : ∀ q, X (ix4 b q r w) = ((x q : ℝ) : EReal)) (k : Fin 19) : -LOGP X (ix4 b k r w) = ((nll x k : ℝ) : EReal) := by
  rw [LOGP_at]
  simp only [SH_at, MX_at, hx]
  rw [← zero_add (∑ q : Fin 19, _)]
  exact nll_max x k _ rfl

theorem wrap : ∀ k : Fin 19, Scalar.select (IntOp.cmpi .slt (BitVec.ofNat 32 k.val) 0#32) (IntOp.addi (BitVec.ofNat 32 k.val) 19#32)
    (BitVec.ofNat 32 k.val) = BitVec.ofNat 32 k.val := by decide

theorem IDX_at (L : IVec S8x1x512x512 32) (b : Fin 8) (r w : Fin 512) (k : Fin 19) (hk : L (ix4 b 0 r w) = BitVec.ofNat 32 k.val) :
    IDX L (ix5 b 0 r w 0) = BitVec.ofNat 32 k.val := by
  pointwise [IDX, LB]
  rw [hk, wrap]

theorem within : ∀ k : Fin 19, IntOp.andi (IntOp.cmpi .sge (BitVec.ofNat 32 k.val) 0#32) (IntOp.cmpi .sle (BitVec.ofNat 32 k.val) 18#32) = 1#1 := by
  decide

theorem OK_at (L : IVec S8x1x512x512 32) (k : Fin 8 → Fin 512 → Fin 512 → Fin 19)
    (hk : ∀ b r w, L (ix4 b 0 r w) = BitVec.ofNat 32 (k b r w).val) (j : S8x1x512x512.Idx) : OK L j = 1#1 := by
  unfold OK
  refine Host.reduce_andi_one _ _ _ _ _ rfl fun i => ?_
  have hi : i = ix5 (i 0) 0 (i 2) (i 3) 0 := by idx_ext
  have e : IDX L i = BitVec.ofNat 32 (k (i 0) (i 2) (i 3)).val := by
    rw [hi]
    exact IDX_at L (i 0) (i 2) (i 3) _ (hk ..)
  show IntOp.andi (IntOp.cmpi .sge (IDX L i) 0#32) (IntOp.cmpi .sle (IDX L i) 18#32) = 1#1
  rw [e, within]

theorem select_ap {s : Shape} (c : IVec s 1) (a d : FVec Ideal s .f32) (j : s.Idx) : select c a d j = Scalar.select (c j) (a j) (d j) := rfl

theorem select_one (a d : EReal) : Scalar.select 1#1 a d = a := rfl

/-- What a pixel's label picks. -/
theorem TAKEN_at (X : FVec Ideal S8x19x512x512 .f32) (L : IVec S8x1x512x512 32)
    (k : Fin 8 → Fin 512 → Fin 512 → Fin 19) (hk : ∀ b r w, L (ix4 b 0 r w) = BitVec.ofNat 32 (k b r w).val) (b : Fin 8) (r w : Fin 512) :
    TAKEN X L (ix4 b 0 r w) = LOGP X (ix4 b (k b r w) r w) := by
  unfold TAKEN
  rw [select_ap, OK_at L k hk, select_one]
  exact gather_at (LOGP X) (IDX L) b r w (k b r w) (IDX_at L b r w _ (hk b r w))

/-- The loss of a pixel. -/
theorem neg_TAKEN_at (X : FVec Ideal S8x19x512x512 .f32) (L : IVec S8x1x512x512 32) (x : Fin 8 → Fin 19 → Fin 512 → Fin 512 → ℝ)
    (k : Fin 8 → Fin 512 → Fin 512 → Fin 19) (hx : ∀ b q r w, X (ix4 b q r w) = ((x b q r w : ℝ) : EReal))
    (hk : ∀ b r w, L (ix4 b 0 r w) = BitVec.ofNat 32 (k b r w).val) (b : Fin 8) (r w : Fin 512) :
    -TAKEN X L (ix4 b 0 r w) = ((nll (fun q => x b q r w) (k b r w) : ℝ) : EReal) := by
  rw [TAKEN_at X L k hk]
  exact neg_LOGP_at X b r w (fun q => x b q r w) (fun q => hx b q r w) (k b r w)

theorem sum_axes12 {n0 n1 n2 : ℕ} (Y : FVec Ideal ⟨3, ![n0, n1, n2]⟩ .f32)
    (h : (⟨3, ![n0, n1, n2]⟩ : Shape).ReducesTo [1, 2] ⟨1, ![n0]⟩) (hu : 0 < S_.numel) (b : Fin n0) :
    Host.reduceAdd Y (constant S_ .f32 0x00000000#32) h hu (ix1 b) = ∑ r : Fin n1, ∑ w : Fin n2, Y (ix3 b r w) := by
  pointwise

theorem neg_at (T : FVec Ideal S8x1x512x512 .f32) (b : Fin 8) (r w : Fin 512) :
    Host.negf (F := Ideal) (shapeCast S8x512x512 T shapeCasts_S8x1x512x512_S8x512x512) (ix3 b r w) = -T (ix4 b 0 r w) := by
  pointwise

theorem mean_at (Y : FVec Ideal S8 .f32) (v : FVec Ideal S_ .f32) (z : EReal) (hv : ∀ i, v i = z) (j : S8.Idx) :
    Host.divf Y (broadcastInDim S8 ![] bcast_S_S8 v) j = Ideal.div (Y j) z :=
  congrArg (Ideal.div (Y j)) (hv _)

theorem pixels_at (i : S_.Idx) : constant (F := Ideal) S_ .f32 0x48800000#32 i = ((262144 : ℝ) : EReal) := ofBits_pixels

theorem PS_eq (X : FVec Ideal S8x19x512x512 .f32) (L : IVec S8x1x512x512 32) (b : Fin 8) : PS X L (ix1 b)
    = Ideal.div (∑ r : Fin 512, ∑ w : Fin 512, -TAKEN X L (ix4 b 0 r w)) ((262144 : ℝ) : EReal) := by
  unfold PS
  rw [mean_at _ _ _ pixels_at, sum_axes12]
  simp only [neg_at]

/-- The mean loss of a sample. -/
theorem PS_at (X : FVec Ideal S8x19x512x512 .f32) (L : IVec S8x1x512x512 32) (x : Fin 8 → Fin 19 → Fin 512 → Fin 512 → ℝ)
    (k : Fin 8 → Fin 512 → Fin 512 → Fin 19) (hx : ∀ b q r w, X (ix4 b q r w) = ((x b q r w : ℝ) : EReal))
    (hk : ∀ b r w, L (ix4 b 0 r w) = BitVec.ofNat 32 (k b r w).val) (b : Fin 8) :
    PS X L (ix1 b) = (((∑ r : Fin 512, ∑ w : Fin 512, nll (fun q => x b q r w) (k b r w)) / 262144 : ℝ) : EReal) := by
  have e : (∑ r : Fin 512, ∑ w : Fin 512, -TAKEN X L (ix4 b 0 r w)) = ((∑ r : Fin 512, ∑ w : Fin 512, nll (fun q => x b q r w) (k b r w) : ℝ) : EReal) := by
    rw [← coe_sum]
    refine Finset.sum_congr rfl fun r _ => ?_
    rw [← coe_sum]
    exact Finset.sum_congr rfl fun w _ => neg_TAKEN_at X L x k hx hk b r w
  rw [PS_eq, e, div_real _ _ (by norm_num)]

end Cert.ReferenceIdeal.Ohem

end
-- ==== Proof.Value.Top.lean ====
/- The reference over the extended reals, from the mean losses of the samples on: the five positions it sorts first, and the
   mean of the means there. -/
module

public import proofs.«01_k».proof.Proof.Value.Ref
public import proofs.«01_k».proof.Proof.Value.Rank
public import Idealize.ShloMosaic.Lib.Routing.OpsSearch

@[expose] public section

set_option maxRecDepth 16384

noncomputable section

namespace Cert.ReferenceIdeal.Ohem
open Cert.ReferenceIdeal Cert.ReferenceIdeal.Gen Idealize.ShloMosaic Idealize.ShloMosaic.TcCoe Idealize.SL.Sem
open Cert.Ohem (coe_sum ofBits_five div_real ahead rank sortedFrom_greater sum_rank_lt)

theorem greater_coe (a b : ℝ) : (FloatOps.cmpfTotal (F := Ideal) (φ := .f32) .gt ((a : ℝ) : EReal) ((b : ℝ) : EReal) == 1#1) = decide (b < a) := by
  show (BitVec.ofBool (decide (((b : ℝ) : EReal) < ((a : ℝ) : EReal))) == 1#1) = _
  simp only [EReal.coe_lt_coe_iff]
  cases decide (b < a) <;> rfl

/-- The positions of a top-k of a vector: those the stable sort by the comparator puts first. -/
theorem topK_at {n k : ℕ} {α : Type} (gt : α → α → BitVec 1) (x : (⟨1, ![n]⟩ : Shape).Idx → α)
    (h : (⟨1, ![n]⟩ : Shape).Slices (fun _ => 0) ⟨1, ![k]⟩) (hk : k ≤ n) (i : Fin k) :
    (Host.topK ⟨1, ![k]⟩ 0 gt x h).2 (ix1 i)
      = BitVec.ofNat 32 (sortedFrom (fun a b : Fin n => gt (x (ix1 a)) (x (ix1 b)) == 1#1) (i.castLE hk)).val := by
  have ha : ∀ (j : (⟨1, ![n]⟩ : Shape).Idx) (a : Fin n), j.along (0 : Fin 1) a = ix1 a := fun j a => by
    funext e
    match e with
    | ⟨0, _⟩ => rfl
  have key : ∀ J : (⟨1, ![n]⟩ : Shape).Idx, J 0 = i.castLE hk →
      BitVec.ofNat 32 (sortedFrom (fun a b : Fin n => gt (x (J.along (0 : Fin 1) a)) (x (J.along (0 : Fin 1) b)) == 1#1) (J 0)).val
        = BitVec.ofNat 32 (sortedFrom (fun a b : Fin n => gt (x (ix1 a)) (x (ix1 b)) == 1#1) (i.castLE hk)).val := fun J hJ => by
    simp only [ha]
    rw [hJ]
  exact key _ (Fin.ext (Nat.zero_add _))

/-- The position sorted `i`-th. -/
theorem TK_at (P : FVec Ideal S8 .f32) (K : Fin 8 → ℝ) (hP : ∀ b : Fin 8, P (ix1 b) = ((K b : ℝ) : EReal)) (i : Fin 5) :
    TK P (ix1 i) = BitVec.ofNat 32 (sortedFrom (ahead K) (i.castLE (by decide : 5 ≤ 8))).val := by
  have e : (fun k k' : Fin 8 => FloatOps.cmpfTotal (F := Ideal) (φ := .f32) .gt (P (ix1 k)) (P (ix1 k')) == 1#1) = fun k k' => decide (K k' < K k) := by
    funext k k'
    rw [hP, hP, greater_coe]
  rw [← sortedFrom_greater, ← e]
  exact topK_at _ P sliceFits_S8_S5 (by decide) i

theorem ahead_div (S : Fin 8 → ℝ) (d : ℝ) (hd : 0 < d) : ahead (fun b => S b / d) = ahead S := by
  funext a b
  unfold ahead
  simp only [div_lt_div_iff_of_pos_right hd, div_left_inj' (ne_of_gt hd)]

theorem wrap8 : ∀ k : Fin 8, Scalar.select (IntOp.cmpi .slt (BitVec.ofNat 32 k.val) 0#32) (IntOp.addi (BitVec.ofNat 32 k.val) 8#32)
    (BitVec.ofNat 32 k.val) = BitVec.ofNat 32 k.val := by decide

theorem column_at (v : IVec S5 32) (i : Fin 5) : broadcastInDim S5x1 ![0] bcast_S5_S5x1_0 v (ix2 i 0) = v (ix1 i) := by
  pointwise

/-- The mean of the five means picked. -/
theorem TOP_at (P : FVec Ideal S8 .f32) (T : IVec S5 32) (K : Fin 8 → ℝ) (σ : Fin 5 → Fin 8)
    (hP : ∀ b : Fin 8, P (ix1 b) = ((K b : ℝ) : EReal)) (hT : ∀ i : Fin 5, T (ix1 i) = BitVec.ofNat 32 (σ i).val) (j : S_.Idx) :
    TOP P T j = (((∑ i, K (σ i)) / 5 : ℝ) : EReal) := by
  pointwise [TOP]
  rw [ofBits_five, ← div_real _ _ (by norm_num), ← coe_sum]
  refine congrArg (fun z => Ideal.div z _) (Finset.sum_congr rfl fun i _ => ?_)
  rw [← hP]
  refine Routing.take_ap gather_S8_S5x1_S5_n_0_n_n_0_1_1 rfl rfl rfl rfl P _ i (σ i).isLt (lt_trans (σ i).isLt (by norm_num)) ?_
  refine (column_at _ i).trans ?_
  show Scalar.select (IntOp.cmpi .slt (T (ix1 i)) 0#32) (IntOp.addi (T (ix1 i)) 8#32) (T (ix1 i)) = _
  rw [hT, wrap8]

/-- The reference's result from the mean losses: the sums of rank below five, over five. -/
theorem top_at (P : FVec Ideal S8 .f32) (S : Fin 8 → ℝ) (hP : ∀ b : Fin 8, P (ix1 b) = ((S b / 262144 : ℝ) : EReal)) (j : S_.Idx) :
    TOP P (TK P) j = (((∑ b, if rank S b < 5 then S b else 0) / 1310720 : ℝ) : EReal) := by
  rw [TOP_at P (TK P) _ _ hP (TK_at P _ hP), ahead_div S 262144 (by norm_num), sum_rank_lt S S 5 (by decide), ← Finset.sum_div, div_div]
  norm_num

end Cert.ReferenceIdeal.Ohem

end
-- ==== Proof.Value.Pre.lean ====
/- The precondition read back: every score is a real number and every label the word of a class. -/
module

public import proofs.«01_k».proof.Pre_in_range
public import proofs.«01_k».proof.Proof.Gen.Pre_in_range
public import proofs.«01_k».proof.Proof.Value.Loss
public import Idealize.ShloMosaic.Lib.Pointwise
public import Idealize.ShloMosaic.Lib.ReduceAll

@[expose] public section

set_option maxRecDepth 16384

noncomputable section

namespace Cert.Pre_in_range.Ohem
open Cert.Pre_in_range Cert.Pre_in_range.Gen Idealize.ShloMosaic Idealize.ShloMosaic.TcCoe Idealize.SL.Sem
open Cert.Ohem (ofBits_negInf ofBits_posInf)

theorem andi_ap {s : Shape} (a c : IVec s 1) (j : s.Idx) : andi a c j = IntOp.andi (a j) (c j) := rfl

theorem negInf_at (i : S_.Idx) : constant (F := Ideal) S_ .f32 0xFF800000#32 i = ⊥ := ofBits_negInf
theorem posInf_at (i : S_.Idx) : constant (F := Ideal) S_ .f32 0x7F800000#32 i = ⊤ := ofBits_posInf

theorem bit_one (b : Bool) (h : BitVec.ofBool b = 1#1) : b = true := by
  revert h; cases b <;> decide

theorem above {s : Shape} (h : S_.BroadcastsInDim s ![]) (X : FVec Ideal s .f32) (v : FVec Ideal S_ .f32) (z : EReal) (hv : ∀ i, v i = z)
    (j : s.Idx) (e : cmpf .ogt X (broadcastInDim s ![] h v) j = 1#1) : z < X j := by
  have e' : BitVec.ofBool (decide (broadcastInDim s ![] h v j < X j)) = 1#1 := e
  have := of_decide_eq_true (bit_one _ e')
  rwa [show broadcastInDim s ![] h v j = z from hv _] at this

theorem below {s : Shape} (h : S_.BroadcastsInDim s ![]) (X : FVec Ideal s .f32) (v : FVec Ideal S_ .f32) (z : EReal) (hv : ∀ i, v i = z)
    (j : s.Idx) (e : cmpf .olt X (broadcastInDim s ![] h v) j = 1#1) : X j < z := by
  have e' : BitVec.ofBool (decide (X j < broadcastInDim s ![] h v j)) = 1#1 := e
  have := of_decide_eq_true (bit_one _ e')
  rwa [show broadcastInDim s ![] h v j = z from hv _] at this

/-- A word from 0 to 18 is the word of a class. -/
theorem class_of (v : BitVec 32) (h0 : IntOp.cmpi .sge v 0#32 = 1#1) (h1 : IntOp.cmpi .slt v 19#32 = 1#1) :
    ∃ k : Fin 19, v = BitVec.ofNat 32 k.val := by
  rw [IntOp.cmpi_sge] at h0
  rw [IntOp.cmpi_slt] at h1
  have e0 : (0#32 : BitVec 32).toInt = 0 := by decide
  have e1 : (19#32 : BitVec 32).toInt = 19 := by decide
  rw [e0] at h0
  rw [e1] at h1
  have hv := v.isLt
  rw [BitVec.toInt_eq_toNat_cond] at h0 h1
  have hlt : v.toNat < 19 := by split at h0 <;> omega
  exact ⟨⟨v.toNat, hlt⟩, BitVec.eq_of_toNat_eq (by rw [BitVec.toNat_ofNat, Nat.mod_eq_of_lt hv])⟩

instance : Subsingleton S_.Idx := ⟨fun a c => funext fun i => i.elim0⟩

theorem read (X : FVec Ideal S8x19x512x512 .f32) (L : IVec S8x1x512x512 32) (h : fn (F := Ideal) X L = fun _ => 1#1) :
    ∃ (x : Fin 8 → Fin 19 → Fin 512 → Fin 512 → ℝ) (k : Fin 8 → Fin 512 → Fin 512 → Fin 19),
      (∀ b q r w, X (ix4 b q r w) = ((x b q r w : ℝ) : EReal)) ∧ ∀ b r w, L (ix4 b 0 r w) = BitVec.ofNat 32 (k b r w).val := by
  have e := congrFun h (Shape.Idx.first Gen.facts.h_S_)
  unfold fn at e
  simp only [andi_ap, IntOp.andi_eq_one] at e
  obtain ⟨⟨el, en⟩, ep⟩ := e
  have hl : ∀ i, ∃ k : Fin 19, L i = BitVec.ofNat 32 k.val := fun i => by
    have a := Host.reduce_andi_all _ _ _ _ _ el i
    rw [andi_ap, IntOp.andi_eq_one] at a
    exact class_of (L i) a.1 a.2
  have hx : ∀ i, ∃ x : ℝ, X i = ((x : ℝ) : EReal) := fun i => by
    have a := above _ X _ ⊥ negInf_at i (Host.reduce_andi_all _ _ _ _ _ en i)
    have c := below _ X _ ⊤ posInf_at i (Host.reduce_andi_all _ _ _ _ _ ep i)
    exact ⟨(X i).toReal, (EReal.coe_toReal (ne_of_lt c) (ne_of_gt a)).symm⟩
  choose x hx using hx
  choose k hl using hl
  exact ⟨fun b q r w => x (ix4 b q r w), fun b r w => k (ix4 b 0 r w), fun b q r w => hx _, fun b r w => hl _⟩

end Cert.Pre_in_range.Ohem

end
-- ==== Proof.Value.Algebra.lean ====
/- The kernel's result and the reference's are the same extended real, whenever the labels are classes and the
   predictions finite: both are the sum of the five largest losses of the eight images, over five times the number of
   pixels. -/
module

public import proofs.«01_k».proof.Proof.Value.Tail
public import proofs.«01_k».proof.Proof.Value.Pixel
public import proofs.«01_k».proof.Proof.Value.Top
public import proofs.«01_k».proof.Proof.Value.Pre
public import proofs.«01_k».proof.Defs

@[expose] public section

set_option maxRecDepth 16384

noncomputable section

namespace Cert.Ohem

open Cert.KernelIdeal Cert.KernelIdeal.Gen Idealize.ShloMosaic Idealize.ShloMosaic.TcCoe Idealize.SL.Sem

/-- The kernel's result, on arguments the precondition holds of: the five largest losses over five times the pixels. -/
theorem kernel_at (m : (ℓ : Loc Cert.KernelIdeal.nD Cert.KernelIdeal.τ Cert.KernelIdeal.sig) → Buf (Elt Ideal) ℓ) (c : Dev Cert.KernelIdeal.nD)
    (x : Fin 8 → Fin 19 → Fin 512 → Fin 512 → ℝ) (k : Fin 8 → Fin 512 → Fin 512 → Fin 19)
    (hx : ∀ b q r w, m ((c.tc : Thread Cert.KernelIdeal.nD Cert.KernelIdeal.τ).loc Cert.KernelIdeal.main_arg0) (ix4 b q r w) = ((x b q r w : ℝ) : EReal))
    (hk : ∀ b r w, m ((c.tc : Thread Cert.KernelIdeal.nD Cert.KernelIdeal.τ).loc Cert.KernelIdeal.main_arg1) (ix4 b 0 r w) = BitVec.ofNat 32 (k b r w).val)
    (j : S_.Idx) :
    Pipeline.afterTail₀ cfgs (Cert.KernelIdeal.Gen.Ohem.dats m) 0 (V0 m) [hostOps1] c Cert.KernelIdeal.main_v2 j
      = (((∑ b, if rank (fun b => ∑ r, ∑ w, nll (fun q => x b q r w) (k b r w)) b < 5 then ∑ r, ∑ w, nll (fun q => x b q r w) (k b r w) else 0) / 1310720 : ℝ) : EReal) := by
  rw [Cert.KernelIdeal.Gen.Ohem.tail_eq m c, Cert.KernelIdeal.Gen.Ohem.corner,
    Cert.KernelIdeal.Gen.Ohem.pay1_at (Cert.KernelIdeal.Gen.Ohem.full m c) (fun b w => ∑ r : Fin 512, nll (fun q => x b q r w) (k b r w))
      (fun b w => Cert.KernelIdeal.Gen.Ohem.full_at m c x k hx hk b w) 0 0]
  have hs : ∀ b, ∑ w : Fin 512, ∑ r : Fin 512, nll (fun q => x b q r w) (k b r w) = ∑ r : Fin 512, ∑ w : Fin 512, nll (fun q => x b q r w) (k b r w) :=
    fun b => Finset.sum_comm
  simp only [hs]

/-- The reference's result, on arguments the precondition holds of: the same. -/
theorem reference_at (m : (ℓ : Loc Cert.ReferenceIdeal.nD Cert.ReferenceIdeal.τ Cert.ReferenceIdeal.sig) → Buf (Elt Ideal) ℓ) (c : Dev Cert.ReferenceIdeal.nD)
    (x : Fin 8 → Fin 19 → Fin 512 → Fin 512 → ℝ) (k : Fin 8 → Fin 512 → Fin 512 → Fin 19)
    (hx : ∀ b q r w, m ((c.tc : Thread Cert.ReferenceIdeal.nD Cert.ReferenceIdeal.τ).loc Cert.ReferenceIdeal.main_arg0) (ix4 b q r w) = ((x b q r w : ℝ) : EReal))
    (hk : ∀ b r w, m ((c.tc : Thread Cert.ReferenceIdeal.nD Cert.ReferenceIdeal.τ).loc Cert.ReferenceIdeal.main_arg1) (ix4 b 0 r w) = BitVec.ofNat 32 (k b r w).val)
    (j : S_.Idx) :
    Cert.ReferenceIdeal.Value.res_main_v17 (F := Ideal) m c j
      = (((∑ b, if rank (fun b => ∑ r, ∑ w, nll (fun q => x b q r w) (k b r w)) b < 5 then ∑ r, ∑ w, nll (fun q => x b q r w) (k b r w) else 0) / 1310720 : ℝ) : EReal) := by
  rw [Cert.ReferenceIdeal.Ohem.res_eq m c _ _ rfl rfl]
  exact Cert.ReferenceIdeal.Ohem.top_at _ (fun b => ∑ r, ∑ w, nll (fun q => x b q r w) (k b r w))
    (fun b => Cert.ReferenceIdeal.Ohem.PS_at _ _ x k hx hk b) j

/-- The two programs end with equal results and leave their arguments as they were. -/
theorem algebraic : Cert.algebraic_KernelIdeal_ReferenceIdeal_pre_in_range := by
  intro m g m' g' hp hag
  refine ⟨fun c => Pipeline.afterTail₀ cfgs (Cert.KernelIdeal.Gen.Ohem.dats m) 0 (V0 m) [hostOps1] c Cert.KernelIdeal.main_v2, ?_, ?_⟩
  · refine (θ_run Cert.KernelIdeal.defs _ _).mono (fun r h c => ⟨?_, h.2.1 c⟩)
      (θ_run_and (Cert.KernelIdeal.Gen.Ohem.run_main m g) (Cert.KernelIdeal.Gen.Ohem.frame_main m g))
    exact (h.1 c).2 Cert.KernelIdeal.main_v2 (by decide)
  · refine (θ_run Cert.ReferenceIdeal.defs _ _).mono (fun r h c => ⟨?_, (h c).2⟩) (Cert.ReferenceIdeal.Value.run m' g')
    obtain ⟨x, k, hx, hk⟩ := Cert.Pre_in_range.Ohem.read _ _ (hp c)
    refine (h c).1.trans (funext fun j => ?_)
    exact (reference_at m' c x k (fun b q r w => (congrFun (hag c).1 _).trans (hx b q r w)) (fun b r w => (congrFun (hag c).2 _).trans (hk b r w)) j).trans
      (kernel_at m c x k hx hk j).symm

end Cert.Ohem

end
-- ==== Proof.lean ====
/- The proof of the claims: both texts of the kernel run and leave their arguments alone, the reference does so too, and
   on finite predictions and labels that are classes the kernel and the reference end with equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Kernel.Data
public import proofs.«01_k».proof.Proof.KernelIdeal.Data
public import proofs.«01_k».proof.Proof.RefFrame
public import proofs.«01_k».proof.Proof.Value.Algebra

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    fun m g _ => Cert.Kernel.Gen.Ohem.frame_main m g,
    fun m g _ => Cert.KernelIdeal.Gen.Ohem.frame_main m g,
    fun m g _ => Cert.KernelIdeal.Gen.Ohem.frame_main m g,
    fun m g _ => Cert.Ohem.reference_frame m g,
    fun m g _ => Cert.Ohem.reference_frame m g,
    trivial,
    Cert.Ohem.algebraic⟩

end Cert.Proof

end
